-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "sqrt_d" .f32 0x413504F3#32 ((Real.sqrt 128 : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S3x128x4608 : Shape := ⟨3, ![3, 128, 4608]⟩
abbrev S3x512x4608 : Shape := ⟨3, ![3, 512, 4608]⟩
abbrev S3x1x4608 : Shape := ⟨3, ![3, 1, 4608]⟩
abbrev S4x128x576 : Shape := ⟨3, ![4, 128, 576]⟩
abbrev S4x512x576 : Shape := ⟨3, ![4, 512, 576]⟩
abbrev S_ : Shape := ⟨0, ![]⟩
abbrev S1x128x4608 : Shape := ⟨3, ![1, 128, 4608]⟩
abbrev S128x4608 : Shape := ⟨2, ![128, 4608]⟩
abbrev S4608x128 : Shape := ⟨2, ![4608, 128]⟩
abbrev S4608x4x576 : Shape := ⟨3, ![4608, 4, 576]⟩
abbrev S4x4608x576 : Shape := ⟨3, ![4, 4608, 576]⟩
abbrev S4x576x4608 : Shape := ⟨3, ![4, 576, 4608]⟩
abbrev S4x576x51 : Shape := ⟨3, ![4, 576, 51]⟩
abbrev S4x576x1 : Shape := ⟨3, ![4, 576, 1]⟩
abbrev S4x576 : Shape := ⟨2, ![4, 576]⟩
abbrev S1x4x576 : Shape := ⟨3, ![1, 4, 576]⟩
abbrev S3x4x576 : Shape := ⟨3, ![3, 4, 576]⟩

class Facts : Prop where
  slices_S3x128x4608_S1x128x4608_0_0_0 : S3x128x4608.Slices ![0, 0, 0] S1x128x4608
  shapeCasts_S1x128x4608_S128x4608 : S1x128x4608.ShapeCasts S128x4608
  transposes_S128x4608_S4608x128_1_0 : S128x4608.Transposes [1, 0] S4608x128
  transposes_S4608x4x576_S4x4608x576_1_0_2 : S4608x4x576.Transposes [1, 0, 2] S4x4608x576
  bcast_S_S4x4608x576 : S_.BroadcastsInDim S4x4608x576 (![] : Fin 0 → Fin S4x4608x576.rank)
  transposes_S4x4608x576_S4x576x4608_0_2_1 : S4x4608x576.Transposes [0, 2, 1] S4x576x4608
  sliceFits_S4x576x4608_S4x576x51 : S4x576x4608.Slices (fun _ => 0) S4x576x51
  slices_S4x576x51_S4x576x1_0_0_49 : S4x576x51.Slices ![0, 0, 49] S4x576x1
  shapeCasts_S4x576x1_S4x576 : S4x576x1.ShapeCasts S4x576
  slices_S4x576x51_S4x576x1_0_0_50 : S4x576x51.Slices ![0, 0, 50] S4x576x1
  slices_S4x576x51_S4x576x1_0_0_0 : S4x576x51.Slices ![0, 0, 0] S4x576x1
  bcast_S_S4x576 : S_.BroadcastsInDim S4x576 (![] : Fin 0 → Fin S4x576.rank)
  slices_S3x128x4608_S1x128x4608_1_0_0 : S3x128x4608.Slices ![1, 0, 0] S1x128x4608
  slices_S3x128x4608_S1x128x4608_2_0_0 : S3x128x4608.Slices ![2, 0, 0] S1x128x4608
  bcast_S4x576_S1x4x576_1_2 : S4x576.BroadcastsInDim S1x4x576 (![1, 2] : Fin 2 → Fin S1x4x576.rank)
  concatenates_S1x4x576_S1x4x576_S1x4x576_S3x4x576_d0 : Shape.Concatenates [S1x4x576, S1x4x576, S1x4x576] S3x4x576 0
  dot_S4608x128_S4x128x576_S4608x4x576_1_1_0_02_n_n_wf : DotDims.WF S4608x128 S4x128x576 S4608x4x576 [1] [1] [0] [0, 2] [] []

variable [Facts]

def dot_S4608x128_S4x128x576_S4608x4x576_1_1_0_02_n_n : DotDims S4608x128 S4x128x576 S4608x4x576 where
  lhsContracting := [1]
  rhsContracting := [1]
  lhsNonContracting := [0]
  rhsNonContracting := [0, 2]
  lhsBatch := []
  rhsBatch := []
  wf := dot_S4608x128_S4x128x576_S4608x4x576_1_1_0_02_n_n_wf
def fn_part4 {F : FTy → Type} [FloatOps F] (main_v27 : IVec S4x576 1) (main_v55 : IVec S4x576 1) (main_v67 : FVec F S4x576 .f32) (main_v70 : FVec F S4x576 .f32) (main_v74 : IVec S4x576 1) (main_v76 : IVec S4x576 1) : IVec S3x4x576 1 :=
  let main_v77 : IVec S4x576 1 := andi main_v74 main_v76
  let main_cst_16 : FVec F S_ .f32 := constant S_ .f32 0x0D800000#32
  let main_v78 : FVec F S4x576 .f32 := broadcastInDim S4x576 ![] bcast_S_S4x576 main_cst_16
  let main_v79 : FVec F S4x576 .f32 := maximumf main_v67 main_v78
  let main_cst_17 : FVec F S_ .f32 := constant S_ .f32 0x39000000#32
  let main_v80 : FVec F S4x576 .f32 := broadcastInDim S4x576 ![] bcast_S_S4x576 main_cst_17
  let main_v81 : FVec F S4x576 .f32 := mulf main_v79 main_v80
  let main_v82 : IVec S4x576 1 := cmpf .oge main_v70 main_v81
  let main_v83 : IVec S4x576 1 := andi main_v77 main_v82
  let main_v84 : IVec S1x4x576 1 := broadcastInDim S1x4x576 ![1, 2] bcast_S4x576_S1x4x576_1_2 main_v27
  let main_v85 : IVec S1x4x576 1 := broadcastInDim S1x4x576 ![1, 2] bcast_S4x576_S1x4x576_1_2 main_v55
  let main_v86 : IVec S1x4x576 1 := broadcastInDim S1x4x576 ![1, 2] bcast_S4x576_S1x4x576_1_2 main_v83
  let main_v87 : IVec S3x4x576 1 := concatenate S3x4x576 0 [⟨S1x4x576, main_v84⟩, ⟨S1x4x576, main_v85⟩, ⟨S1x4x576, main_v86⟩] concatenates_S1x4x576_S1x4x576_S1x4x576_S3x4x576_d0
  main_v87

def fn_part3 {F : FTy → Type} [FloatOps F] (main_arg3 : FVec F S4x128x576 .f32) (main_v27 : IVec S4x576 1) (main_v55 : IVec S4x576 1) (main_v57 : FVec F S128x4608 .f32) : IVec S3x4x576 1 :=
  let main_v58 : FVec F S4608x128 .f32 := (transpose S4608x128 [1, 0] · transposes_S128x4608_S4608x128_1_0) main_v57
  let main_v59 : FVec F S4608x4x576 .f32 := (fun l r => Host.dotGeneral dot_S4608x128_S4x128x576_S4608x4x576_1_1_0_02_n_n none l r) main_v58 main_arg3
  let main_v60 : FVec F S4x4608x576 .f32 := (transpose S4x4608x576 [1, 0, 2] · transposes_S4608x4x576_S4x4608x576_1_0_2) main_v59
  let main_cst_11 : FVec F S_ .f32 := constant S_ .f32 0x43000000#32
  let main_v61 : FVec F S_ .f32 := Host.sqrt main_cst_11
  let main_v62 : FVec F S4x4608x576 .f32 := broadcastInDim S4x4608x576 ![] bcast_S_S4x4608x576 main_v61
  let main_v63 : FVec F S4x4608x576 .f32 := Host.divf main_v60 main_v62
  let main_v64 : FVec F S4x576x4608 .f32 := (transpose S4x576x4608 [0, 2, 1] · transposes_S4x4608x576_S4x576x4608_0_2_1) main_v63
  let main_values_12 : FVec F S4x576x51 .f32 := (fun x => (Host.topK S4x576x51 2 (FloatOps.cmpfTotal .gt) x sliceFits_S4x576x4608_S4x576x51).1) main_v64
  let main_indices_13 : IVec S4x576x51 32 := (fun x => (Host.topK S4x576x51 2 (FloatOps.cmpfTotal .gt) x sliceFits_S4x576x4608_S4x576x51).2) main_v64
  let main_v65 : FVec F S4x576x1 .f32 := (extractStridedSlice S4x576x1 ![0, 0, 49] · slices_S4x576x51_S4x576x1_0_0_49) main_values_12
  let main_v66 : FVec F S4x576 .f32 := shapeCast S4x576 main_v65 shapeCasts_S4x576x1_S4x576
  let main_v67 : FVec F S4x576 .f32 := Host.absf main_v66
  let main_v68 : FVec F S4x576x1 .f32 := (extractStridedSlice S4x576x1 ![0, 0, 50] · slices_S4x576x51_S4x576x1_0_0_50) main_values_12
  let main_v69 : FVec F S4x576 .f32 := shapeCast S4x576 main_v68 shapeCasts_S4x576x1_S4x576
  let main_v70 : FVec F S4x576 .f32 := subf main_v66 main_v69
  let main_v71 : FVec F S4x576x1 .f32 := (extractStridedSlice S4x576x1 ![0, 0, 0] · slices_S4x576x51_S4x576x1_0_0_0) main_values_12
  let main_v72 : FVec F S4x576 .f32 := shapeCast S4x576 main_v71 shapeCasts_S4x576x1_S4x576
  let main_cst_14 : FVec F S_ .f32 := constant S_ .f32 0x7F800000#32
  let main_v73 : FVec F S4x576 .f32 := broadcastInDim S4x576 ![] bcast_S_S4x576 main_cst_14
  let main_v74 : IVec S4x576 1 := cmpf .olt main_v72 main_v73
  let main_cst_15 : FVec F S_ .f32 := constant S_ .f32 0x7F61B1E6#32
  let main_v75 : FVec F S4x576 .f32 := broadcastInDim S4x576 ![] bcast_S_S4x576 main_cst_15
  let main_v76 : IVec S4x576 1 := cmpf .olt main_v67 main_v75
  fn_part4 (F := F) main_v27 main_v55 main_v67 main_v70 main_v74 main_v76

def fn_part2 {F : FTy → Type} [FloatOps F] (main_arg0 : FVec F S3x128x4608 .f32) (main_arg3 : FVec F S4x128x576 .f32) (main_v27 : IVec S4x576 1) (main_values_5 : FVec F S4x576x51 .f32) (main_v37 : FVec F S4x576x1 .f32) : IVec S3x4x576 1 :=
  let main_v38 : FVec F S4x576 .f32 := shapeCast S4x576 main_v37 shapeCasts_S4x576x1_S4x576
  let main_v39 : FVec F S4x576 .f32 := Host.absf main_v38
  let main_v40 : FVec F S4x576x1 .f32 := (extractStridedSlice S4x576x1 ![0, 0, 50] · slices_S4x576x51_S4x576x1_0_0_50) main_values_5
  let main_v41 : FVec F S4x576 .f32 := shapeCast S4x576 main_v40 shapeCasts_S4x576x1_S4x576
  let main_v42 : FVec F S4x576 .f32 := subf main_v38 main_v41
  let main_v43 : FVec F S4x576x1 .f32 := (extractStridedSlice S4x576x1 ![0, 0, 0] · slices_S4x576x51_S4x576x1_0_0_0) main_values_5
  let main_v44 : FVec F S4x576 .f32 := shapeCast S4x576 main_v43 shapeCasts_S4x576x1_S4x576
  let main_cst_7 : FVec F S_ .f32 := constant S_ .f32 0x7F800000#32
  let main_v45 : FVec F S4x576 .f32 := broadcastInDim S4x576 ![] bcast_S_S4x576 main_cst_7
  let main_v46 : IVec S4x576 1 := cmpf .olt main_v44 main_v45
  let main_cst_8 : FVec F S_ .f32 := constant S_ .f32 0x7F61B1E6#32
  let main_v47 : FVec F S4x576 .f32 := broadcastInDim S4x576 ![] bcast_S_S4x576 main_cst_8
  let main_v48 : IVec S4x576 1 := cmpf .olt main_v39 main_v47
  let main_v49 : IVec S4x576 1 := andi main_v46 main_v48
  let main_cst_9 : FVec F S_ .f32 := constant S_ .f32 0x0D800000#32
  let main_v50 : FVec F S4x576 .f32 := broadcastInDim S4x576 ![] bcast_S_S4x576 main_cst_9
  let main_v51 : FVec F S4x576 .f32 := maximumf main_v39 main_v50
  let main_cst_10 : FVec F S_ .f32 := constant S_ .f32 0x39000000#32
  let main_v52 : FVec F S4x576 .f32 := broadcastInDim S4x576 ![] bcast_S_S4x576 main_cst_10
  let main_v53 : FVec F S4x576 .f32 := mulf main_v51 main_v52
  let main_v54 : IVec S4x576 1 := cmpf .oge main_v42 main_v53
  let main_v55 : IVec S4x576 1 := andi main_v49 main_v54
  let main_v56 : FVec F S1x128x4608 .f32 := (extractStridedSlice S1x128x4608 ![2, 0, 0] · slices_S3x128x4608_S1x128x4608_2_0_0) main_arg0
  let main_v57 : FVec F S128x4608 .f32 := shapeCast S128x4608 main_v56 shapeCasts_S1x128x4608_S128x4608
  fn_part3 (F := F) main_arg3 main_v27 main_v55 main_v57

def fn_part1 {F : FTy → Type} [FloatOps F] (main_arg0 : FVec F S3x128x4608 .f32) (main_arg3 : FVec F S4x128x576 .f32) (main_v11 : FVec F S4x576 .f32) (main_v14 : FVec F S4x576 .f32) (main_v18 : IVec S4x576 1) (main_cst_1 : FVec F S_ .f32) : IVec S3x4x576 1 :=
  let main_v19 : FVec F S4x576 .f32 := broadcastInDim S4x576 ![] bcast_S_S4x576 main_cst_1
  let main_v20 : IVec S4x576 1 := cmpf .olt main_v11 main_v19
  let main_v21 : IVec S4x576 1 := andi main_v18 main_v20
  let main_cst_2 : FVec F S_ .f32 := constant S_ .f32 0x0D800000#32
  let main_v22 : FVec F S4x576 .f32 := broadcastInDim S4x576 ![] bcast_S_S4x576 main_cst_2
  let main_v23 : FVec F S4x576 .f32 := maximumf main_v11 main_v22
  let main_cst_3 : FVec F S_ .f32 := constant S_ .f32 0x39000000#32
  let main_v24 : FVec F S4x576 .f32 := broadcastInDim S4x576 ![] bcast_S_S4x576 main_cst_3
  let main_v25 : FVec F S4x576 .f32 := mulf main_v23 main_v24
  let main_v26 : IVec S4x576 1 := cmpf .oge main_v14 main_v25
  let main_v27 : IVec S4x576 1 := andi main_v21 main_v26
  let main_v28 : FVec F S1x128x4608 .f32 := (extractStridedSlice S1x128x4608 ![1, 0, 0] · slices_S3x128x4608_S1x128x4608_1_0_0) main_arg0
  let main_v29 : FVec F S128x4608 .f32 := shapeCast S128x4608 main_v28 shapeCasts_S1x128x4608_S128x4608
  let main_v30 : FVec F S4608x128 .f32 := (transpose S4608x128 [1, 0] · transposes_S128x4608_S4608x128_1_0) main_v29
  let main_v31 : FVec F S4608x4x576 .f32 := (fun l r => Host.dotGeneral dot_S4608x128_S4x128x576_S4608x4x576_1_1_0_02_n_n none l r) main_v30 main_arg3
  let main_v32 : FVec F S4x4608x576 .f32 := (transpose S4x4608x576 [1, 0, 2] · transposes_S4608x4x576_S4x4608x576_1_0_2) main_v31
  let main_cst_4 : FVec F S_ .f32 := constant S_ .f32 0x43000000#32
  let main_v33 : FVec F S_ .f32 := Host.sqrt main_cst_4
  let main_v34 : FVec F S4x4608x576 .f32 := broadcastInDim S4x4608x576 ![] bcast_S_S4x4608x576 main_v33
  let main_v35 : FVec F S4x4608x576 .f32 := Host.divf main_v32 main_v34
  let main_v36 : FVec F S4x576x4608 .f32 := (transpose S4x576x4608 [0, 2, 1] · transposes_S4x4608x576_S4x576x4608_0_2_1) main_v35
  let main_values_5 : FVec F S4x576x51 .f32 := (fun x => (Host.topK S4x576x51 2 (FloatOps.cmpfTotal .gt) x sliceFits_S4x576x4608_S4x576x51).1) main_v36
  let main_indices_6 : IVec S4x576x51 32 := (fun x => (Host.topK S4x576x51 2 (FloatOps.cmpfTotal .gt) x sliceFits_S4x576x4608_S4x576x51).2) main_v36
  let main_v37 : FVec F S4x576x1 .f32 := (extractStridedSlice S4x576x1 ![0, 0, 49] · slices_S4x576x51_S4x576x1_0_0_49) main_values_5
  fn_part2 (F := F) main_arg0 main_arg3 main_v27 main_values_5 main_v37

def fn {F : FTy → Type} [FloatOps F] (main_arg0 : FVec F S3x128x4608 .f32) (main_arg1 : FVec F S3x512x4608 .f32) (main_arg2 : FVec F S3x1x4608 .f32) (main_arg3 : FVec F S4x128x576 .f32) (main_arg4 : FVec F S4x512x576 .f32) (main_arg5 : IVec S_ 32) (main_arg6 : IVec S_ 32) : IVec S3x4x576 1 :=
  let main_v0 : FVec F S1x128x4608 .f32 := (extractStridedSlice S1x128x4608 ![0, 0, 0] · slices_S3x128x4608_S1x128x4608_0_0_0) main_arg0
  let main_v1 : FVec F S128x4608 .f32 := shapeCast S128x4608 main_v0 shapeCasts_S1x128x4608_S128x4608
  let main_v2 : FVec F S4608x128 .f32 := (transpose S4608x128 [1, 0] · transposes_S128x4608_S4608x128_1_0) main_v1
  let main_v3 : FVec F S4608x4x576 .f32 := (fun l r => Host.dotGeneral dot_S4608x128_S4x128x576_S4608x4x576_1_1_0_02_n_n none l r) main_v2 main_arg3
  let main_v4 : FVec F S4x4608x576 .f32 := (transpose S4x4608x576 [1, 0, 2] · transposes_S4608x4x576_S4x4608x576_1_0_2) main_v3
  let main_cst : FVec F S_ .f32 := constant S_ .f32 0x43000000#32
  let main_v5 : FVec F S_ .f32 := Host.sqrt main_cst
  let main_v6 : FVec F S4x4608x576 .f32 := broadcastInDim S4x4608x576 ![] bcast_S_S4x4608x576 main_v5
  let main_v7 : FVec F S4x4608x576 .f32 := Host.divf main_v4 main_v6
  let main_v8 : FVec F S4x576x4608 .f32 := (transpose S4x576x4608 [0, 2, 1] · transposes_S4x4608x576_S4x576x4608_0_2_1) main_v7
  let main_values : FVec F S4x576x51 .f32 := (fun x => (Host.topK S4x576x51 2 (FloatOps.cmpfTotal .gt) x sliceFits_S4x576x4608_S4x576x51).1) main_v8
  let main_indices : IVec S4x576x51 32 := (fun x => (Host.topK S4x576x51 2 (FloatOps.cmpfTotal .gt) x sliceFits_S4x576x4608_S4x576x51).2) main_v8
  let main_v9 : FVec F S4x576x1 .f32 := (extractStridedSlice S4x576x1 ![0, 0, 49] · slices_S4x576x51_S4x576x1_0_0_49) main_values
  let main_v10 : FVec F S4x576 .f32 := shapeCast S4x576 main_v9 shapeCasts_S4x576x1_S4x576
  let main_v11 : FVec F S4x576 .f32 := Host.absf main_v10
  let main_v12 : FVec F S4x576x1 .f32 := (extractStridedSlice S4x576x1 ![0, 0, 50] · slices_S4x576x51_S4x576x1_0_0_50) main_values
  let main_v13 : FVec F S4x576 .f32 := shapeCast S4x576 main_v12 shapeCasts_S4x576x1_S4x576
  let main_v14 : FVec F S4x576 .f32 := subf main_v10 main_v13
  let main_v15 : FVec F S4x576x1 .f32 := (extractStridedSlice S4x576x1 ![0, 0, 0] · slices_S4x576x51_S4x576x1_0_0_0) main_values
  let main_v16 : FVec F S4x576 .f32 := shapeCast S4x576 main_v15 shapeCasts_S4x576x1_S4x576
  let main_cst_0 : FVec F S_ .f32 := constant S_ .f32 0x7F800000#32
  let main_v17 : FVec F S4x576 .f32 := broadcastInDim S4x576 ![] bcast_S_S4x576 main_cst_0
  let main_v18 : IVec S4x576 1 := cmpf .olt main_v16 main_v17
  let main_cst_1 : FVec F S_ .f32 := constant S_ .f32 0x7F61B1E6#32
  fn_part1 (F := F) main_arg0 main_arg3 main_v11 main_v14 main_v18 main_cst_1
-- ==== Kernel.lean ====
abbrev S3x128x4608 : Shape := ⟨3, ![3, 128, 4608]⟩
abbrev S3x512x4608 : Shape := ⟨3, ![3, 512, 4608]⟩
abbrev S3x1x4608 : Shape := ⟨3, ![3, 1, 4608]⟩
abbrev S4x128x576 : Shape := ⟨3, ![4, 128, 576]⟩
abbrev S4x512x576 : Shape := ⟨3, ![4, 512, 576]⟩
abbrev S_ : Shape := ⟨0, ![]⟩
abbrev S3x4608x128 : Shape := ⟨3, ![3, 4608, 128]⟩
abbrev S3x514x4608 : Shape := ⟨3, ![3, 514, 4608]⟩
abbrev S4x3x1024x576 : Shape := ⟨4, ![4, 3, 1024, 576]⟩
abbrev S1x4608x128 : Shape := ⟨3, ![1, 4608, 128]⟩
abbrev S1x514x4608 : Shape := ⟨3, ![1, 514, 4608]⟩
abbrev S1x128x576 : Shape := ⟨3, ![1, 128, 576]⟩
abbrev S1x512x576 : Shape := ⟨3, ![1, 512, 576]⟩
abbrev S1x1x1024x576 : Shape := ⟨4, ![1, 1, 1024, 576]⟩
abbrev S4608x128 : Shape := ⟨2, ![4608, 128]⟩
abbrev S128x576 : Shape := ⟨2, ![128, 576]⟩
abbrev S4608x576 : Shape := ⟨2, ![4608, 576]⟩
abbrev S1x4608 : Shape := ⟨2, ![1, 4608]⟩
abbrev S1x576 : Shape := ⟨2, ![1, 576]⟩
abbrev S576 : Shape := ⟨1, ![576]⟩
abbrev S514x4608 : Shape := ⟨2, ![514, 4608]⟩
abbrev S514x576 : Shape := ⟨2, ![514, 576]⟩
abbrev S512x576 : Shape := ⟨2, ![512, 576]⟩
abbrev S1x1x512x576 : Shape := ⟨4, ![1, 1, 512, 576]⟩

abbrev nBuf : Space → Nat
  | .hbm => 15
  | .vmem => 10
  | .smem => 0
  | _ => 0

abbrev bufTy : (tb : Table) → Fin (tcTables nBuf tb) → BufTy
  | .hbm, ⟨0, _⟩ => ⟨S3x128x4608, .f32⟩
  | .hbm, ⟨1, _⟩ => ⟨S3x512x4608, .f32⟩
  | .hbm, ⟨2, _⟩ => ⟨S3x1x4608, .f32⟩
  | .hbm, ⟨3, _⟩ => ⟨S4x128x576, .f32⟩
  | .hbm, ⟨4, _⟩ => ⟨S4x512x576, .f32⟩
  | .hbm, ⟨5, _⟩ => ⟨S_, .i32⟩
  | .hbm, ⟨6, _⟩ => ⟨S_, .i32⟩
  | .hbm, ⟨7, _⟩ => ⟨S3x4608x128, .f32⟩
  | .hbm, ⟨8, _⟩ => ⟨S3x4608x128, .bf16⟩
  | .hbm, ⟨9, _⟩ => ⟨S_, .f32⟩
  | .hbm, ⟨10, _⟩ => ⟨S3x1x4608, .f32⟩
  | .hbm, ⟨11, _⟩ => ⟨S3x514x4608, .f32⟩
  | .hbm, ⟨12, _⟩ => ⟨S3x514x4608, .bf16⟩
  | .hbm, ⟨13, _⟩ => ⟨S4x128x576, .bf16⟩
  | .hbm, ⟨14, _⟩ => ⟨S4x3x1024x576, .f32⟩
  | .local _ .vmem, ⟨0, _⟩ => ⟨S1x4608x128, .bf16⟩
  | .local _ .vmem, ⟨1, _⟩ => ⟨S1x4608x128, .bf16⟩
  | .local _ .vmem, ⟨2, _⟩ => ⟨S1x514x4608, .bf16⟩
  | .local _ .vmem, ⟨3, _⟩ => ⟨S1x514x4608, .bf16⟩
  | .local _ .vmem, ⟨4, _⟩ => ⟨S1x128x576, .bf16⟩
  | .local _ .vmem, ⟨5, _⟩ => ⟨S1x128x576, .bf16⟩
  | .local _ .vmem, ⟨6, _⟩ => ⟨S1x512x576, .f32⟩
  | .local _ .vmem, ⟨7, _⟩ => ⟨S1x512x576, .f32⟩
  | .local _ .vmem, ⟨8, _⟩ => ⟨S1x1x1024x576, .f32⟩
  | .local _ .vmem, ⟨9, _⟩ => ⟨S1x1x1024x576, .f32⟩
  | _, _ => ⟨S3x128x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 4], ![false, false]⟩

@[reducible] def k0_t1_loop : Scf.Loop 32 :=
  let c0_i32_7 : BitVec 32 := 0#32
  let c22_i32 : BitVec 32 := 22#32
  let v9 : BitVec 32 := Scalar.addi c0_i32_7 c22_i32
  let c1_i32 : BitVec 32 := 1#32
  ⟨c0_i32_7, v9, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x4608x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x514x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x576 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "sqrt_d" => some ((Real.sqrt 128 : ℝ) : EReal)
  | _ => none
-- ==== ReferenceIdeal.lean ====
abbrev S3x128x4608 : Shape := ⟨3, ![3, 128, 4608]⟩
abbrev S3x512x4608 : Shape := ⟨3, ![3, 512, 4608]⟩
abbrev S3x1x4608 : Shape := ⟨3, ![3, 1, 4608]⟩
abbrev S4x128x576 : Shape := ⟨3, ![4, 128, 576]⟩
abbrev S4x512x576 : Shape := ⟨3, ![4, 512, 576]⟩
abbrev S_ : Shape := ⟨0, ![]⟩
abbrev S1x128x4608 : Shape := ⟨3, ![1, 128, 4608]⟩
abbrev S128x4608 : Shape := ⟨2, ![128, 4608]⟩
abbrev S4608x128 : Shape := ⟨2, ![4608, 128]⟩
abbrev S4608x4x576 : Shape := ⟨3, ![4608, 4, 576]⟩
abbrev S4x4608x576 : Shape := ⟨3, ![4, 4608, 576]⟩
abbrev S4x576x4608 : Shape := ⟨3, ![4, 576, 4608]⟩
abbrev S4x576x50 : Shape := ⟨3, ![4, 576, 50]⟩
abbrev S4x576x1 : Shape := ⟨3, ![4, 576, 1]⟩
abbrev S4x576 : Shape := ⟨2, ![4, 576]⟩
abbrev S4 : Shape := ⟨1, ![4]⟩
abbrev S4x1x1 : Shape := ⟨3, ![4, 1, 1]⟩
abbrev S576 : Shape := ⟨1, ![576]⟩
abbrev S1x576x1 : Shape := ⟨3, ![1, 576, 1]⟩
abbrev S4x576x50x1 : Shape := ⟨4, ![4, 576, 50, 1]⟩
abbrev S4x576x50x3 : Shape := ⟨4, ![4, 576, 50, 3]⟩
abbrev S1x512x4608 : Shape := ⟨3, ![1, 512, 4608]⟩
abbrev S512x4608 : Shape := ⟨2, ![512, 4608]⟩
abbrev S512x4x576 : Shape := ⟨3, ![512, 4, 576]⟩
abbrev S1x1x4608 : Shape := ⟨3, ![1, 1, 4608]⟩
abbrev S1x4608 : Shape := ⟨2, ![1, 4608]⟩
abbrev S1x4x576 : Shape := ⟨3, ![1, 4, 576]⟩
abbrev S4x1x576 : Shape := ⟨3, ![4, 1, 576]⟩
abbrev S4x1024x576 : Shape := ⟨3, ![4, 1024, 576]⟩
abbrev S1x4x1024x576 : Shape := ⟨4, ![1, 4, 1024, 576]⟩
abbrev S3x4x1024x576 : Shape := ⟨4, ![3, 4, 1024, 576]⟩
abbrev S4x3x1024x576 : Shape := ⟨4, ![4, 3, 1024, 576]⟩

abbrev nBuf : Space → Nat
  | .hbm => 213
  | .vmem => 0
  | .smem => 0
  | _ => 0

abbrev hbmTy0_0 (i : Nat) : BufTy := match i % 128 with
  | 0 => ⟨S3x128x4608, .f32⟩
  | 1 => ⟨S3x512x4608, .f32⟩
  | 2 => ⟨S3x1x4608, .f32⟩
  | 3 => ⟨S4x128x576, .f32⟩
  | 4 => ⟨S4x512x576, .f32⟩
  | 5 => ⟨S_, .i32⟩
  | 6 => ⟨S_, .i32⟩
  | 7 => ⟨S1x128x4608, .f32⟩
  | 8 => ⟨S128x4608, .f32⟩
  | 9 => ⟨S4608x128, .f32⟩
  | 10 => ⟨S4608x4x576, .f32⟩
  | 11 => ⟨S4x4608x576, .f32⟩
  | 12 => ⟨S_, .f32⟩
  | 13 => ⟨S_, .f32⟩
  | 14 => ⟨S4x4608x576, .f32⟩
  | 15 => ⟨S4x4608x576, .f32⟩
  | 16 => ⟨S4x576x4608, .f32⟩
  | 17 => ⟨S4x576x50, .f32⟩
  | 18 => ⟨S4x576x50, .i32⟩
  | 19 => ⟨S4x576x1, .f32⟩
  | 20 => ⟨S4x576x50, .f32⟩
  | 21 => ⟨S4x576x50, .f32⟩
  | 22 => ⟨S4x576x50, .f32⟩
  | 23 => ⟨S_, .f32⟩
  | 24 => ⟨S4x576, .f32⟩
  | 25 => ⟨S4x576x1, .f32⟩
  | 26 => ⟨S4x576x50, .f32⟩
  | 27 => ⟨S4x576x50, .f32⟩
  | 28 => ⟨S_, .f32⟩
  | 29 => ⟨S4x576x4608, .f32⟩
  | 30 => ⟨S4, .i32⟩
  | 31 => ⟨S4x1x1, .i32⟩
  | 32 => ⟨S576, .i32⟩
  | 33 => ⟨S1x576x1, .i32⟩
  | 34 => ⟨S_, .i32⟩
  | 35 => ⟨S4x1x1, .i32⟩
  | 36 => ⟨S4x1x1, .i1⟩
  | 37 => ⟨S_, .i32⟩
  | 38 => ⟨S4x1x1, .i32⟩
  | 39 => ⟨S4x1x1, .i32⟩
  | 40 => ⟨S4x1x1, .i32⟩
  | 41 => ⟨S_, .i32⟩
  | 42 => ⟨S1x576x1, .i32⟩
  | 43 => ⟨S1x576x1, .i1⟩
  | 44 => ⟨S_, .i32⟩
  | 45 => ⟨S1x576x1, .i32⟩
  | 46 => ⟨S1x576x1, .i32⟩
  | 47 => ⟨S1x576x1, .i32⟩
  | 48 => ⟨S_, .i32⟩
  | 49 => ⟨S4x576x50, .i32⟩
  | 50 => ⟨S4x576x50, .i1⟩
  | 51 => ⟨S_, .i32⟩
  | 52 => ⟨S4x576x50, .i32⟩
  | 53 => ⟨S4x576x50, .i32⟩
  | 54 => ⟨S4x576x50, .i32⟩
  | 55 => ⟨S4x576x50, .i32⟩
  | 56 => ⟨S4x576x50, .i32⟩
  | 57 => ⟨S4x576x50x1, .i32⟩
  | 58 => ⟨S4x576x50x1, .i32⟩
  | 59 => ⟨S4x576x50x1, .i32⟩
  | 60 => ⟨S4x576x50x3, .i32⟩
  | 61 => ⟨S4x576x4608, .f32⟩
  | 62 => ⟨S4x4608x576, .f32⟩
  | 63 => ⟨S1x512x4608, .f32⟩
  | 64 => ⟨S512x4608, .f32⟩
  | 65 => ⟨S512x4x576, .f32⟩
  | 66 => ⟨S4x512x576, .f32⟩
  | 67 => ⟨S1x1x4608, .f32⟩
  | 68 => ⟨S1x4608, .f32⟩
  | 69 => ⟨S1x4x576, .f32⟩
  | 70 => ⟨S4x1x576, .f32⟩
  | 71 => ⟨S4x512x576, .f32⟩
  | 72 => ⟨S4x512x576, .f32⟩
  | 73 => ⟨S4x1024x576, .f32⟩
  | 74 => ⟨S1x128x4608, .f32⟩
  | 75 => ⟨S128x4608, .f32⟩
  | 76 => ⟨S4608x128, .f32⟩
  | 77 => ⟨S4608x4x576, .f32⟩
  | 78 => ⟨S4x4608x576, .f32⟩
  | 79 => ⟨S_, .f32⟩
  | 80 => ⟨S_, .f32⟩
  | 81 => ⟨S4x4608x576, .f32⟩
  | 82 => ⟨S4x4608x576, .f32⟩
  | 83 => ⟨S4x576x4608, .f32⟩
  | 84 => ⟨S4x576x50, .f32⟩
  | 85 => ⟨S4x576x50, .i32⟩
  | 86 => ⟨S4x576x1, .f32⟩
  | 87 => ⟨S4x576x50, .f32⟩
  | 88 => ⟨S4x576x50, .f32⟩
  | 89 => ⟨S4x576x50, .f32⟩
  | 90 => ⟨S_, .f32⟩
  | 91 => ⟨S4x576, .f32⟩
  | 92 => ⟨S4x576x1, .f32⟩
  | 93 => ⟨S4x576x50, .f32⟩
  | 94 => ⟨S4x576x50, .f32⟩
  | 95 => ⟨S_, .f32⟩
  | 96 => ⟨S4x576x4608, .f32⟩
  | 97 => ⟨S4, .i32⟩
  | 98 => ⟨S4x1x1, .i32⟩
  | 99 => ⟨S576, .i32⟩
  | 100 => ⟨S1x576x1, .i32⟩
  | 101 => ⟨S_, .i32⟩
  | 102 => ⟨S4x1x1, .i32⟩
  | 103 => ⟨S4x1x1, .i1⟩
  | 104 => ⟨S_, .i32⟩
  | 105 => ⟨S4x1x1, .i32⟩
  | 106 => ⟨S4x1x1, .i32⟩
  | 107 => ⟨S4x1x1, .i32⟩
  | 108 => ⟨S_, .i32⟩
  | 109 => ⟨S1x576x1, .i32⟩
  | 110 => ⟨S1x576x1, .i1⟩
  | 111 => ⟨S_, .i32⟩
  | 112 => ⟨S1x576x1, .i32⟩
  | 113 => ⟨S1x576x1, .i32⟩
  | 114 => ⟨S1x576x1, .i32⟩
  | 115 => ⟨S_, .i32⟩
  | 116 => ⟨S4x576x50, .i32⟩
  | 117 => ⟨S4x576x50, .i1⟩
  | 118 => ⟨S_, .i32⟩
  | 119 => ⟨S4x576x50, .i32⟩
  | 120 => ⟨S4x576x50, .i32⟩
  | 121 => ⟨S4x576x50, .i32⟩
  | 122 => ⟨S4x576x50, .i32⟩
  | 123 => ⟨S4x576x50, .i32⟩
  | 124 => ⟨S4x576x50x1, .i32⟩
  | 125 => ⟨S4x576x50x1, .i32⟩
  | 126 => ⟨S4x576x50x1, .i32⟩
  | 127 => ⟨S4x576x50x3, .i32⟩
  | _ => ⟨S3x128x4608, .f32⟩

abbrev hbmTy0_1 (i : Nat) : BufTy := match i % 128 with
  | 0 => ⟨S4x576x4608, .f32⟩
  | 1 => ⟨S4x4608x576, .f32⟩
  | 2 => ⟨S1x512x4608, .f32⟩
  | 3 => ⟨S512x4608, .f32⟩
  | 4 => ⟨S512x4x576, .f32⟩
  | 5 => ⟨S4x512x576, .f32⟩
  | 6 => ⟨S1x1x4608, .f32⟩
  | 7 => ⟨S1x4608, .f32⟩
  | 8 => ⟨S1x4x576, .f32⟩
  | 9 => ⟨S4x1x576, .f32⟩
  | 10 => ⟨S4x512x576, .f32⟩
  | 11 => ⟨S4x512x576, .f32⟩
  | 12 => ⟨S4x1024x576, .f32⟩
  | 13 => ⟨S1x128x4608, .f32⟩
  | 14 => ⟨S128x4608, .f32⟩
  | 15 => ⟨S4608x128, .f32⟩
  | 16 => ⟨S4608x4x576, .f32⟩
  | 17 => ⟨S4x4608x576, .f32⟩
  | 18 => ⟨S_, .f32⟩
  | 19 => ⟨S_, .f32⟩
  | 20 => ⟨S4x4608x576, .f32⟩
  | 21 => ⟨S4x4608x576, .f32⟩
  | 22 => ⟨S4x576x4608, .f32⟩
  | 23 => ⟨S4x576x50, .f32⟩
  | 24 => ⟨S4x576x50, .i32⟩
  | 25 => ⟨S4x576x1, .f32⟩
  | 26 => ⟨S4x576x50, .f32⟩
  | 27 => ⟨S4x576x50, .f32⟩
  | 28 => ⟨S4x576x50, .f32⟩
  | 29 => ⟨S_, .f32⟩
  | 30 => ⟨S4x576, .f32⟩
  | 31 => ⟨S4x576x1, .f32⟩
  | 32 => ⟨S4x576x50, .f32⟩
  | 33 => ⟨S4x576x50, .f32⟩
  | 34 => ⟨S_, .f32⟩
  | 35 => ⟨S4x576x4608, .f32⟩
  | 36 => ⟨S4, .i32⟩
  | 37 => ⟨S4x1x1, .i32⟩
  | 38 => ⟨S576, .i32⟩
  | 39 => ⟨S1x576x1, .i32⟩
  | 40 => ⟨S_, .i32⟩
  | 41 => ⟨S4x1x1, .i32⟩
  | 42 => ⟨S4x1x1, .i1⟩
  | 43 => ⟨S_, .i32⟩
  | 44 => ⟨S4x1x1, .i32⟩
  | 45 => ⟨S4x1x1, .i32⟩
  | 46 => ⟨S4x1x1, .i32⟩
  | 47 => ⟨S_, .i32⟩
  | 48 => ⟨S1x576x1, .i32⟩
  | 49 => ⟨S1x576x1, .i1⟩
  | 50 => ⟨S_, .i32⟩
  | 51 => ⟨S1x576x1, .i32⟩
  | 52 => ⟨S1x576x1, .i32⟩
  | 53 => ⟨S1x576x1, .i32⟩
  | 54 => ⟨S_, .i32⟩
  | 55 => ⟨S4x576x50, .i32⟩
  | 56 => ⟨S4x576x50, .i1⟩
  | 57 => ⟨S_, .i32⟩
  | 58 => ⟨S4x576x50, .i32⟩
  | 59 => ⟨S4x576x50, .i32⟩
  | 60 => ⟨S4x576x50, .i32⟩
  | 61 => ⟨S4x576x50, .i32⟩
  | 62 => ⟨S4x576x50, .i32⟩
  | 63 => ⟨S4x576x50x1, .i32⟩
  | 64 => ⟨S4x576x50x1, .i32⟩
  | 65 => ⟨S4x576x50x1, .i32⟩
  | 66 => ⟨S4x576x50x3, .i32⟩
  | 67 => ⟨S4x576x4608, .f32⟩
  | 68 => ⟨S4x4608x576, .f32⟩
  | 69 => ⟨S1x512x4608, .f32⟩
  | 70 => ⟨S512x4608, .f32⟩
  | 71 => ⟨S512x4x576, .f32⟩
  | 72 => ⟨S4x512x576, .f32⟩
  | 73 => ⟨S1x1x4608, .f32⟩
  | 74 => ⟨S1x4608, .f32⟩
  | 75 => ⟨S1x4x576, .f32⟩
  | 76 => ⟨S4x1x576, .f32⟩
  | 77 => ⟨S4x512x576, .f32⟩
  | 78 => ⟨S4x512x576, .f32⟩
  | 79 => ⟨S4x1024x576, .f32⟩
  | 80 => ⟨S1x4x1024x576, .f32⟩
  | 81 => ⟨S1x4x1024x576, .f32⟩
  | 82 => ⟨S1x4x1024x576, .f32⟩
  | 83 => ⟨S3x4x1024x576, .f32⟩
  | 84 => ⟨S4x3x1024x576, .f32⟩
  | _ => ⟨S3x128x4608, .f32⟩

abbrev hbmTy (i : Nat) : BufTy := match i / 128 with
  | 0 => hbmTy0_0 i
  | 1 => hbmTy0_1 i
  | _ => ⟨S3x128x4608, .f32⟩

abbrev bufTy : (tb : Table) → Fin (tcTables nBuf tb) → BufTy
  | .hbm, ⟨i, _⟩ => hbmTy i
  | _, _ => ⟨S3x128x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_values : Ref sig .tc := ⟨.hbm, 17, rfl⟩
abbrev main_indices : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_values_8 : Ref sig .tc := ⟨.hbm, 84, rfl⟩
abbrev main_indices_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_12 : Ref sig .tc := ⟨.hbm, 101, rfl⟩
abbrev main_v78 : Ref sig .tc := ⟨.hbm, 102, rfl⟩
abbrev main_v79 : Ref sig .tc := ⟨.hbm, 103, rfl⟩
abbrev main_c_13 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_14 : Ref sig .tc := ⟨.hbm, 108, rfl⟩
abbrev main_v83 : Ref sig .tc := ⟨.hbm, 109, rfl⟩
abbrev main_v84 : Ref sig .tc := ⟨.hbm, 110, rfl⟩
abbrev main_c_15 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_16 : Ref sig .tc := ⟨.hbm, 115, rfl⟩
abbrev main_v88 : Ref sig .tc := ⟨.hbm, 116, rfl⟩
abbrev main_v89 : Ref sig .tc := ⟨.hbm, 117, rfl⟩
abbrev main_c_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_18 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_values_19 : Ref sig .tc := ⟨.hbm, 151, rfl⟩
abbrev main_indices_20 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_21 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_22 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_c_23 : Ref sig .tc := ⟨.hbm, 168, rfl⟩
abbrev main_v134 : Ref sig .tc := ⟨.hbm, 169, rfl⟩
abbrev main_v135 : Ref sig .tc := ⟨.hbm, 170, rfl⟩
abbrev main_c_24 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_c_25 : Ref sig .tc := ⟨.hbm, 175, rfl⟩
abbrev main_v139 : Ref sig .tc := ⟨.hbm, 176, rfl⟩
abbrev main_v140 : Ref sig .tc := ⟨.hbm, 177, rfl⟩
abbrev main_c_26 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_c_27 : Ref sig .tc := ⟨.hbm, 182, rfl⟩
abbrev main_v144 : Ref sig .tc := ⟨.hbm, 183, rfl⟩
abbrev main_v145 : Ref sig .tc := ⟨.hbm, 184, rfl⟩
abbrev main_c_28 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩

abbrev nD : Nat := 1
abbrev τ : Topo := Topo.v7x

variable {F : FTy → Type} [FloatOps F]
-- ==== Proof.Kernel.Body.lean ====
/- The run of the body of Kernel on any staging buffers, with the pieces it leaves in its output. -/
module

public import proofs.«01_k».proof.Proof.Kernel.Runs

@[expose] public section

-- the rectangles have long axes, read coordinate by coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the body is long: its run takes more steps than usual
set_option maxHeartbeats 1000000 in
/-- The body's triple: on whole staging memrefs — the inputs' at their contents,
    the FORGOTTEN outputs' (4) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg2 : Memref sig .tc .vmem S1x4608x128 .bf16) (harg2 : arg2.IsWhole) (arg3 : Memref sig .tc .vmem S1x514x4608 .bf16) (harg3 : arg3.IsWhole) (arg4 : Memref sig .tc .vmem S1x128x576 .bf16) (harg4 : arg4.IsWhole) (arg5 : Memref sig .tc .vmem S1x512x576 .f32) (harg5 : arg5.IsWhole) (arg6 : Memref sig .tc .vmem S1x1x1024x576 .f32) (harg6 : arg6.IsWhole)
    (x0 : Vec F S1x4608x128 .bf16) (x1 : Vec F S1x514x4608 .bf16) (x2 : Vec F S1x128x576 .bf16) (x3 : Vec F S1x512x576 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)) -∗ K ⟨⟩))
          ⊢ wp frame (wpE (defs₀ (F := F)) Variants.none c none) E (cc0__slab_kernel i arg2 harg2 arg3 harg3 arg4 harg4 arg5 harg5 arg6 harg6) K := by
    intro E K
    simp only [cc0__slab_kernel_eq_skeleton]; unfold cc0__slab_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _, _; isplitr; swap; · iexact H4
    ipureintro; rfl

end Cert.Kernel.Gen

end
-- ==== Proof.Kernel.Frame.lean ====
/- The frame of Kernel: the run of the whole launch from the run of one body. -/
module

public import proofs.«01_k».proof.Proof.Kernel.Body
public import Idealize.ShloMosaic.Lib.Claim

@[expose] public section

-- the rectangles have long axes, read coordinate by coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents, read off the proof data without
    working out the host operations before the launch. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- After a point the joined values block is as it was. -/
theorem after0_1 (c : Dev nD) (t : Fin cfg0.N) : (dats m 0 c).after 1 t = iblk m c 1 t := by dsimp only [dats]
/-- After a point the query block is as it was. -/
theorem after0_2 (c : Dev nD) (t : Fin cfg0.N) : (dats m 0 c).after 2 t = iblk m c 2 t := by dsimp only [dats]
/-- After a point the query's own values block is as it was. -/
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Before a point the joined values block is the array's. -/
theorem before0_1 (c : Dev nD) (t : Fin cfg0.N) (d) : (dats m 0 c).before 1 t d = iblk m c 1 t :=
  before0_1_of m (dats m 0 c) (A_eq m c 1) (after0_1 m c) t d
/-- Before a point the query block is the array's. -/
theorem before0_2 (c : Dev nD) (t : Fin cfg0.N) (d) : (dats m 0 c).before 2 t d = iblk m c 2 t :=
  before0_2_of m (dats m 0 c) (A_eq m c 2) (after0_2 m c) t d
/-- Before a point the query's own values block is the array's. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the run rule is applied with its arguments left open
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.KernelIdeal.Runs.lean ====
/- What the frame run of KernelIdeal starts from: the arrays as the launch finds them after the host
   operations, the blocks each grid point is given, and the frame statement read off a run. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- the rectangles have long axes, read coordinate by coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations before the launch claim no fresh buffers. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The kernel body on any staging memrefs: a subtype the run finds -/

/-- One staging buffer of output window 4, through which its contents are stated (`View.read_writes_of_cover`: the
    choice does not matter). -/
abbrev VO0_4 : View sig .tc .vmem S1x1x1024x576 .f32 := (Memref.whole cc0_stg4_0 : Memref sig .tc .vmem S1x1x1024x576 .f32).view
/-- Each window's current staging memref at point `t`, spelled as the pipeline passes it (`bodyAt0`), and its wholeness. -/
abbrev ms0_0 (t : Fin cfg0.N) : Memref sig .tc .vmem S1x4608x128 .bf16 := win0_0.stage (cfg0.slots t 0)
/-- The keys window's staging buffer is a whole buffer. -/
abbrev hs0_0 (t : Fin cfg0.N) : (ms0_0 t).IsWhole := hstage0_0 ((cfg0.slots t 0).cast nbuf0_0)
/-- The joined values window's staging buffer at a point. -/
abbrev ms0_1 (t : Fin cfg0.N) : Memref sig .tc .vmem S1x514x4608 .bf16 := win0_1.stage (cfg0.slots t 1)
/-- The joined values window's staging buffer is a whole buffer. -/
abbrev hs0_1 (t : Fin cfg0.N) : (ms0_1 t).IsWhole := hstage0_1 ((cfg0.slots t 1).cast nbuf0_1)
/-- The query window's staging buffer at a point. -/
abbrev ms0_2 (t : Fin cfg0.N) : Memref sig .tc .vmem S1x128x576 .bf16 := win0_2.stage (cfg0.slots t 2)
/-- The query window's staging buffer is a whole buffer. -/
abbrev hs0_2 (t : Fin cfg0.N) : (ms0_2 t).IsWhole := hstage0_2 ((cfg0.slots t 2).cast nbuf0_2)
/-- The query's own values window's staging buffer at a point. -/
abbrev ms0_3 (t : Fin cfg0.N) : Memref sig .tc .vmem S1x512x576 .f32 := win0_3.stage (cfg0.slots t 3)
/-- The query's own values window's staging buffer is a whole buffer. -/
abbrev hs0_3 (t : Fin cfg0.N) : (ms0_3 t).IsWhole := hstage0_3 ((cfg0.slots t 3).cast nbuf0_3)
/-- The output window's staging buffer at a point. -/
abbrev ms0_4 (t : Fin cfg0.N) : Memref sig .tc .vmem S1x1x1024x576 .f32 := win0_4.stage (cfg0.slots t 4)
/-- The output window's staging buffer is a whole buffer. -/
abbrev hs0_4 (t : Fin cfg0.N) : (ms0_4 t).IsWhole := hstage0_4 ((cfg0.slots t 4).cast nbuf0_4)

end Cert.KernelIdeal.Gen

end
-- ==== Proof.KernelIdeal.Body.lean ====
/- The run of the body of KernelIdeal on any staging buffers, with the pieces it leaves in its output. -/
module

public import proofs.«01_k».proof.Proof.KernelIdeal.Runs

@[expose] public section

-- the rectangles have long axes, read coordinate by coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the body is long: its run takes more steps than usual
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x4608x128 .bf16) (harg2 : arg2.IsWhole) (arg3 : Memref sig .tc .vmem S1x514x4608 .bf16) (harg3 : arg3.IsWhole) (arg4 : Memref sig .tc .vmem S1x128x576 .bf16) (harg4 : arg4.IsWhole) (arg5 : Memref sig .tc .vmem S1x512x576 .f32) (harg5 : arg5.IsWhole) (arg6 : Memref sig .tc .vmem S1x1x1024x576 .f32) (harg6 : arg6.IsWhole)
    (x0 : Vec F S1x4608x128 .bf16) (x1 : Vec F S1x514x4608 .bf16) (x2 : Vec F S1x128x576 .bf16) (x3 : Vec F S1x512x576 .f32) :
    { L4 : List (View.Piece (Elt F) S1x1x1024x576 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__slab_kernel i arg2 harg2 arg3 harg3 arg4 harg4 arg5 harg5 arg6 harg6) K } := by
  refine ⟨?_, fun E K => ?run⟩
  case run =>
    simp only [cc0__slab_kernel_eq_skeleton]; unfold cc0__slab_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Gen

end
-- ==== Proof.KernelIdeal.Frame.lean ====
/- The frame of KernelIdeal: the run of the whole launch from the run of one body. -/
module

public import proofs.«01_k».proof.Proof.KernelIdeal.Body
public import Idealize.ShloMosaic.Lib.Claim

@[expose] public section

-- the rectangles have long axes, read coordinate by coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 4 tile its block (2 stores of `S1x1x512x576`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x4608x128 .bf16) (harg2 : arg2.IsWhole) (arg3 : Memref sig .tc .vmem S1x514x4608 .bf16) (harg3 : arg3.IsWhole) (arg4 : Memref sig .tc .vmem S1x128x576 .bf16) (harg4 : arg4.IsWhole) (arg5 : Memref sig .tc .vmem S1x512x576 .f32) (harg5 : arg5.IsWhole) (arg6 : Memref sig .tc .vmem S1x1x1024x576 .f32) (harg6 : arg6.IsWhole)
    (x0 : Vec F S1x4608x128 .bf16) (x1 : Vec F S1x514x4608 .bf16) (x2 : Vec F S1x128x576 .bf16) (x3 : Vec F S1x512x576 .f32) (y : S1x1x1024x576.Idx) :
    ∃ pc ∈ (kernelRun0_A c i arg2 harg2 arg3 harg3 arg4 harg4 arg5 harg5 arg6 harg6 x0 x1 x2 x3).1, y ∈ pc.1.set :=
  View.cover_of_tiledL (kernelRun0_A c i arg2 harg2 arg3 harg3 arg4 harg4 arg5 harg5 arg6 harg6 x0 x1 x2 x3).1 S1x1x512x576.size (by sl_kernel_rfl) y

/-- What the run leaves in output 4's staging buffer: its pieces read back over junk. -/
def out0_A_4 (c : Dev nD) (i : grid0.Coords) (arg2 : Memref sig .tc .vmem S1x4608x128 .bf16) (harg2 : arg2.IsWhole) (arg3 : Memref sig .tc .vmem S1x514x4608 .bf16) (harg3 : arg3.IsWhole) (arg4 : Memref sig .tc .vmem S1x128x576 .bf16) (harg4 : arg4.IsWhole) (arg5 : Memref sig .tc .vmem S1x512x576 .f32) (harg5 : arg5.IsWhole) (arg6 : Memref sig .tc .vmem S1x1x1024x576 .f32) (harg6 : arg6.IsWhole)
    (x0 : Vec F S1x4608x128 .bf16) (x1 : Vec F S1x514x4608 .bf16) (x2 : Vec F S1x128x576 .bf16) (x3 : Vec F S1x512x576 .f32) : Vec F S1x1x1024x576 .f32 :=
  VO0_4.read (Elt F) (VO0_4.writes (Elt F) VO0_4.junk (kernelRun0_A c i arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt0 (c : Dev nD) (t : Fin cfg0.N) : Vec F S1x1x1024x576 .f32 :=
  out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents, read off the proof data without
    working out the host operations before the launch. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- After a point the joined values block is as it was. -/
theorem after0_1 (c : Dev nD) (t : Fin cfg0.N) : (dats m 0 c).after 1 t = iblk m c 1 t := by dsimp only [dats]
/-- After a point the query block is as it was. -/
theorem after0_2 (c : Dev nD) (t : Fin cfg0.N) : (dats m 0 c).after 2 t = iblk m c 2 t := by dsimp only [dats]
/-- After a point the query's own values block is as it was. -/
theorem after0_3 (c : Dev nD) (t : Fin cfg0.N) : (dats m 0 c).after 3 t = iblk m c 3 t := by dsimp only [dats]
/-- After a point the output block is what the body left. -/
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Before a point the joined values block is the array's. -/
theorem before0_1 (c : Dev nD) (t : Fin cfg0.N) (d) : (dats m 0 c).before 1 t d = iblk m c 1 t :=
  before0_1_of m (dats m 0 c) (A_eq m c 1) (after0_1 m c) t d
/-- Before a point the query block is the array's. -/
theorem before0_2 (c : Dev nD) (t : Fin cfg0.N) (d) : (dats m 0 c).before 2 t d = iblk m c 2 t :=
  before0_2_of m (dats m 0 c) (A_eq m c 2) (after0_2 m c) t d
/-- Before a point the query's own values block is the array's. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt0
  unfold out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the run rule is applied with its arguments left open
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Frames.lean ====
/- The frames of the three programs and the value of the named constant. -/
module

public import proofs.«01_k».proof.Defs
public import proofs.«01_k».proof.Proof.Kernel.Frame
public import proofs.«01_k».proof.Proof.KernelIdeal.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as compiled terminates, leaves its arguments unchanged and every counter at zero. -/
theorem frame_kernel : Cert.quiescent_Kernel := fun m ρ _ => Cert.Kernel.Gen.frame m ρ

/-- The kernel over the extended reals terminates, leaves its arguments unchanged and every counter at zero. -/
theorem frame_ideal : Cert.quiescent_KernelIdeal := fun m ρ _ => Cert.KernelIdeal.Gen.frame m ρ

/-- The reference terminates and leaves its arguments unchanged; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The constant named `sqrt_d` is the root of 128, which its printed pattern rounds. -/
theorem preserves_named : Cert.preserves_Kernel_KernelIdeal :=
  IdealRules.named_const.statement Cert.KernelIdeal.κ "sqrt_d" .f32 0x413504F3#32 ((Real.sqrt 128 : ℝ) : EReal) rfl

end Cert.Proof

end
-- ==== Proof.Value.Lands.lean ====
/- Where an update of the reference's scatter lands. -/
module

public import proofs.«01_k».proof.Proof.Gen.ReferenceIdeal
public import Idealize.ShloMosaic.Lib.Routing.OpsSet
public import Idealize.ShloMosaic.Lib.Routing.OpsPair
public import Idealize.ShloMosaic.Lib.Pointwise

@[expose] public section

open Idealize.ShloMosaic

namespace Cert.ReferenceIdeal.Value

open Cert.ReferenceIdeal Cert.ReferenceIdeal.Gen

/-- The scatter's dimension numbers, named. -/
abbrev placing : ScatterDims S4x576x4608 S4x576x50x3 S4x576x50 := scatter_S4x576x4608_S4x576x50x3_S4x576x50_n_012_012_3

/-- An update of the scatter is one entry: its window adds nothing to any coordinate. -/
theorem placing_window (k : S4x576x50.Idx) (a : Fin 3) : placing.window k a = 0 := by
  match a with
  | ⟨0, _⟩ => rfl
  | ⟨1, _⟩ => rfl
  | ⟨2, _⟩ => rfl

/-- An update starts at the integers its index words stand for. -/
theorem placing_start (idx : IVec S4x576x50x3 32) (b : Fin 4) (q : Fin 576) (j : Fin 50) (a : Fin 3) :
    placing.start (ix3 b q j) idx a = (idx (ix4 b q j a)).toInt := by
  have h : ∀ c : Fin 3, placing.start (ix3 b q j) idx c = (idx (placing.siIdx (ix3 b q j) c)).toInt := by
    intro c
    match c with
    | ⟨0, _⟩ => rfl
    | ⟨1, _⟩ => rfl
    | ⟨2, _⟩ => rfl
  rw [h]
  refine congrArg (fun i => (idx i).toInt) (funext fun e => ?_)
  match e with
  | ⟨0, _⟩ => rfl
  | ⟨1, _⟩ => rfl
  | ⟨2, _⟩ => rfl
  | ⟨3, _⟩ => rfl

/-- An update lands where its three index words say. -/
theorem placing_lands (idx : IVec S4x576x50x3 32) (b b' : Fin 4) (q q' : Fin 576) (j : Fin 50) (k : Fin 4608) :
    placing.resultIdx? (ix3 b q j) idx = some (ix3 b' q' k) ↔
      (idx (ix4 b q j 0)).toInt = b'.val ∧ (idx (ix4 b q j 1)).toInt = q'.val ∧ (idx (ix4 b q j 2)).toInt = k.val := by
  rw [Routing.resultIdx?_eq_some]
  constructor
  · intro h
    have h0 := h 0
    have h1 := h 1
    have h2 := h 2
    rw [placing_start, placing_window] at h0 h1 h2
    exact ⟨by simpa using h0, by simpa using h1, by simpa using h2⟩
  · rintro ⟨h0, h1, h2⟩ a
    rw [placing_start, placing_window]
    match a with
    | ⟨0, _⟩ => simpa using h0
    | ⟨1, _⟩ => simpa using h1
    | ⟨2, _⟩ => simpa using h2

end Cert.ReferenceIdeal.Value
-- ==== Proof.Value.Rank.lean ====
/- Sorting a column in descending order, and the set of its fifty largest entries. -/
module

public import Idealize.ShloMosaic.PureOps.Ideal
public import Idealize.ShloMosaic.Lib.SortFacts

@[expose] public section

open Idealize.ShloMosaic

namespace Cert.TopK

variable {n : ℕ}

/-- The position in the column of each place of its stable descending order. -/
noncomputable def order (s : Fin n → EReal) : Fin n → Fin n := sortedFrom fun k k' => decide (s k' < s k)

/-- The descending order passes through every position once. -/
theorem order_bijective (s : Fin n → EReal) : Function.Bijective (order s) :=
  ⟨sortedFrom_injective _, sortedFrom_surjective _⟩

/-- The ordered column does not increase. -/
theorem order_antitone (s : Fin n → EReal) {i j : Fin n} (h : i ≤ j) : s (order s j) ≤ s (order s i) := by
  rcases h.eq_or_lt with rfl | h
  · exact le_rfl
  · have := sortedFrom_noInversion (fun k k' => decide (s k' < s k)) (fun k k' => decide (s k' < s k))
      (fun a b hab => by
        simp only [decide_eq_true_eq, decide_eq_false_iff_not, not_lt] at *
        exact hab.le)
      (fun a b hab => hab)
      (fun a b c hab hbc => by
        simp only [decide_eq_false_iff_not, not_lt] at *
        exact hab.trans hbc) i j h
    exact not_lt.mp (of_decide_eq_false this)

/-- The first place holds the greatest entry. -/
theorem le_order_first (s : Fin n) (f : Fin n → EReal) (h0 : 0 < n) : f s ≤ f (order f ⟨0, h0⟩) := by
  obtain ⟨j, rfl⟩ := (order_bijective f).2 s
  exact order_antitone f (Fin.mk_le_of_le_val (Nat.zero_le _))

/-- Counting over the column is counting over its order. -/
theorem card_order (s : Fin n → EReal) (p : Fin n → Prop) [DecidablePred p] :
    (Finset.univ.filter p).card = (Finset.univ.filter fun j => p (order s j)).card := by
  symm
  refine Finset.card_bij (fun j _ => order s j) ?_ ?_ ?_
  · intro j hj
    simpa using hj
  · intro a _ b _ h
    exact (order_bijective s).1 h
  · intro k hk
    obtain ⟨j, rfl⟩ := (order_bijective s).2 k
    exact ⟨j, by simpa using hk, rfl⟩

/-- There are `m` places before place `m`. -/
theorem card_below (m : ℕ) (hm : m ≤ n) : (Finset.univ.filter fun j : Fin n => j.val < m).card = m := by
  rw [Fin.card_filter_val_lt]
  omega

/-- At least `m + 1` entries reach `c` exactly when the entry at place `m` does. -/
theorem count_reach (s : Fin n → EReal) (c : EReal) (m : Fin n) :
    m.val + 1 ≤ (Finset.univ.filter fun k => c ≤ s k).card ↔ c ≤ s (order s m) := by
  rw [card_order s]
  constructor
  · intro h
    by_contra hc
    have hsub : (Finset.univ.filter fun j => c ≤ s (order s j)) ⊆ Finset.univ.filter fun j : Fin n => j.val < m.val := by
      intro j hj
      simp only [Finset.mem_filter, Finset.mem_univ, true_and] at hj ⊢
      by_contra hlt
      exact hc (hj.trans (order_antitone s (by omega)))
    have := Finset.card_le_card hsub
    rw [card_below _ (by omega)] at this
    omega
  · intro h
    have hsub : (Finset.univ.filter fun j : Fin n => j.val < m.val + 1) ⊆ Finset.univ.filter fun j => c ≤ s (order s j) := by
      intro j hj
      simp only [Finset.mem_filter, Finset.mem_univ, true_and] at hj ⊢
      exact h.trans (order_antitone s (by omega))
    have := Finset.card_le_card hsub
    rwa [card_below _ (by omega)] at this

/-- A threshold between places `m` and `m + 1` is reached by exactly the entries of the first places. -/
theorem reach_iff (s : Fin n → EReal) (c : EReal) (m : ℕ) (hm : m + 1 < n)
    (h1 : c ≤ s (order s ⟨m, by omega⟩)) (h2 : s (order s ⟨m + 1, hm⟩) < c) (j : Fin n) :
    c ≤ s (order s j) ↔ j.val < m + 1 := by
  constructor
  · intro h
    by_contra hlt
    have : s (order s j) ≤ s (order s ⟨m + 1, hm⟩) := order_antitone s (by
      rw [Fin.le_def]
      show m + 1 ≤ j.val
      omega)
    exact absurd (h.trans this) (not_le.mpr h2)
  · intro h
    exact h1.trans (order_antitone s (by
      rw [Fin.le_def]
      show j.val ≤ m
      omega))

/-- … and there are `m + 1` of them. -/
theorem card_reach (s : Fin n → EReal) (c : EReal) (m : ℕ) (hm : m + 1 < n)
    (h1 : c ≤ s (order s ⟨m, by omega⟩)) (h2 : s (order s ⟨m + 1, hm⟩) < c) :
    (Finset.univ.filter fun k => c ≤ s k).card = m + 1 := by
  rw [card_order s]
  simp only [reach_iff s c m hm h1 h2]
  exact card_below _ (by omega)

/-- A sum over the entries that reach the threshold runs over the first places. -/
theorem sum_reach {t : ℕ} (s : Fin n → EReal) (c : EReal) (ht : t + 1 < n) (h1 : c ≤ s (order s ⟨t, by omega⟩))
    (h2 : s (order s ⟨t + 1, ht⟩) < c) (g : Fin n → EReal) :
    (∑ k, if c ≤ s k then g k else 0) = ∑ j : Fin (t + 1), g (order s (j.castLE (by omega))) := by
  rw [← (order_bijective s).sum_comp]
  simp only [reach_iff s c t ht h1 h2]
  rw [← Finset.sum_filter]
  symm
  refine Finset.sum_bij (fun (j : Fin (t + 1)) _ => j.castLE (by omega)) ?_ ?_ ?_ ?_
  · intro j _
    simp
    omega
  · intro a _ b _ h
    exact Fin.castLE_injective _ h
  · intro k hk
    simp only [Finset.mem_filter, Finset.mem_univ, true_and] at hk
    exact ⟨⟨k.val, hk⟩, Finset.mem_univ _, rfl⟩
  · intro j _
    rfl

end Cert.TopK
-- ==== Proof.Value.TopRead.lean ====
/- The host's selection of the greatest entries along the last of three axes, read at an index. -/
module

public import proofs.«01_k».proof.Proof.Value.Rank
public import Idealize.ShloMosaic.PureOps
public import Idealize.ShloMosaic.Lib.Pointwise
public import Idealize.ShloMosaic.Lib.Pipeline.Value

@[expose] public section

open Idealize.ShloMosaic

namespace Cert.TopK

variable {A B N T : ℕ}

/-- Moving an index along the last axis replaces its last coordinate. -/
theorem along_last (a : Fin A) (b : Fin B) (k k' : Fin N) (h : 2 < 3) :
    Shape.Idx.along (s := ⟨3, ![A, B, N]⟩) (ix3 a b k) ⟨2, h⟩ k' = ix3 a b k' := by
  funext i
  match i with
  | ⟨0, _⟩ => rfl
  | ⟨1, _⟩ => rfl
  | ⟨2, _⟩ => rfl

/-- The index with its last coordinate replaced. -/
abbrev toPlace (a : Fin A) (b : Fin B) (k k' : Fin N) : Shape.Idx ⟨3, ![A, B, N]⟩ :=
  Shape.Idx.along (s := ⟨3, ![A, B, N]⟩) (ix3 a b k) ⟨2, Nat.lt_succ_self 2⟩ k'

/-- The sort's permutation of one column is the column's descending order. -/
theorem sorted_eq_order (f : Fin N → EReal) :
    sortedFrom (fun k k' => FloatOps.cmpfTotal (F := Ideal) (φ := .f32) .gt (f k) (f k') == 1#1) = order f := by
  unfold order
  congr 1
  funext k k'
  show (BitVec.ofBool (decide (f k' < f k)) == 1#1) = decide (f k' < f k)
  cases decide (f k' < f k) <;> rfl

/-- What is read at a place of the sorted column is read at that place of its descending order. -/
theorem at_order {α : Type} (g : Fin N → α) (f f' : Fin N → EReal) (hf : f = f') (p : Fin N) :
    g (sortedFrom (fun k k' => FloatOps.cmpfTotal (F := Ideal) (φ := .f32) .gt (f k) (f k') == 1#1) p) = g (order f' p) := by
  rw [sorted_eq_order, hf]

/-- Place `j` of the values selected is the column's entry at place `j` of its descending order. -/
theorem topK_value (x : FVec Ideal ⟨3, ![A, B, N]⟩ .f32) (h : Shape.Slices ⟨3, ![A, B, N]⟩ (fun _ => 0) ⟨3, ![A, B, T]⟩)
    (hT : T ≤ N) (a : Fin A) (b : Fin B) (j : Fin T) :
    (Host.topK ⟨3, ![A, B, T]⟩ 2 (FloatOps.cmpfTotal .gt) x h).1 (ix3 a b j)
      = x (ix3 a b (order (fun k => x (ix3 a b k)) (j.castLE hT))) := by
  unfold Host.topK
  dsimp only
  rw [extractStridedSlice_apply _ _ _ _ (ix3 a b (j.castLE hT)) (by
    intro i
    match i with
    | ⟨0, _⟩ => exact (Nat.zero_add _).symm
    | ⟨1, _⟩ => exact (Nat.zero_add _).symm
    | ⟨2, _⟩ => exact (Nat.zero_add _).symm)]
  unfold Host.sort2
  rw [dif_pos (show 2 < 3 by norm_num)]
  dsimp only
  refine Eq.trans (at_order (fun k : Fin N => x (toPlace a b (j.castLE hT) k))
    (fun k : Fin N => x (toPlace a b (j.castLE hT) k)) (fun k : Fin N => x (ix3 a b k))
    (funext fun k : Fin N => congrArg x (along_last a b _ k (by norm_num))) (j.castLE hT)) ?_
  exact congrArg x (along_last a b _ _ (by norm_num))

/-- Place `j` of the positions selected is the word of that place of the order. -/
theorem topK_index (x : FVec Ideal ⟨3, ![A, B, N]⟩ .f32) (h : Shape.Slices ⟨3, ![A, B, N]⟩ (fun _ => 0) ⟨3, ![A, B, T]⟩)
    (hT : T ≤ N) (a : Fin A) (b : Fin B) (j : Fin T) :
    (Host.topK ⟨3, ![A, B, T]⟩ 2 (FloatOps.cmpfTotal .gt) x h).2 (ix3 a b j)
      = BitVec.ofNat 32 (order (fun k => x (ix3 a b k)) (j.castLE hT)).val := by
  unfold Host.topK
  dsimp only
  rw [extractStridedSlice_apply _ _ _ _ (ix3 a b (j.castLE hT)) (by
    intro i
    match i with
    | ⟨0, _⟩ => exact (Nat.zero_add _).symm
    | ⟨1, _⟩ => exact (Nat.zero_add _).symm
    | ⟨2, _⟩ => exact (Nat.zero_add _).symm)]
  unfold Host.sort2
  rw [dif_pos (show 2 < 3 by norm_num)]
  dsimp only
  rw [dif_pos (show 2 < 3 by norm_num)]
  refine Eq.trans (at_order (fun k : Fin N => BitVec.ofNat 32 ((toPlace a b (j.castLE hT) k) 2).val)
    (fun k : Fin N => x (toPlace a b (j.castLE hT) k)) (fun k : Fin N => x (ix3 a b k))
    (funext fun k : Fin N => congrArg x (along_last a b _ k (by norm_num))) (j.castLE hT)) ?_
  exact congrArg (fun i : Shape.Idx ⟨3, ![A, B, N]⟩ => BitVec.ofNat 32 (i 2).val) (along_last a b _ _ (by norm_num))

end Cert.TopK
-- ==== Proof.Value.Weights.lean ====
/- The reference's sparse attention weights of one object, as a function of the object's scores, read at an index. -/
module

public import proofs.«01_k».proof.Proof.Value.Lands
public import proofs.«01_k».proof.Proof.Value.TopRead
public import proofs.«01_k».proof.Proof.Gen.ReferenceIdeal.Run
public import Idealize.ShloMosaic.Lib.Pointwise
public import Idealize.ShloMosaic.Lib.IdealHost

@[expose] public section

noncomputable section

open Idealize.ShloMosaic

namespace Cert.ReferenceIdeal.Value

open Cert.ReferenceIdeal Cert.ReferenceIdeal.Gen Cert.TopK

/-- The fifty greatest scores of each query. -/
def tops (x : FVec Ideal S4x576x4608 .f32) : FVec Ideal S4x576x50 .f32 :=
  (Host.topK S4x576x50 2 (FloatOps.cmpfTotal .gt) x sliceFits_S4x576x4608_S4x576x50).1

/-- Their positions in memory. -/
def spots (x : FVec Ideal S4x576x4608 .f32) : IVec S4x576x50 32 :=
  (Host.topK S4x576x50 2 (FloatOps.cmpfTotal .gt) x sliceFits_S4x576x4608_S4x576x50).2

/-- The exponentials of the scores less their greatest. -/
def exps (x : FVec Ideal S4x576x4608 .f32) : FVec Ideal S4x576x50 .f32 :=
  Host.exp (subf (tops x) (broadcastInDim S4x576x50 ![0, 1, 2] bcast_S4x576x1_S4x576x50_0_1_2
    (extractStridedSlice S4x576x1 ![0, 0, 0] (tops x) slices_S4x576x50_S4x576x1_0_0_0)))

/-- The softmax of the fifty greatest scores. -/
def shares (x : FVec Ideal S4x576x4608 .f32) : FVec Ideal S4x576x50 .f32 :=
  Host.divf (exps x) (broadcastInDim S4x576x50 ![0, 1, 2] bcast_S4x576x1_S4x576x50_0_1_2
    (broadcastInDim S4x576x1 ![0, 1] bcast_S4x576_S4x576x1_0_1
      (Host.reduceAdd (exps x) (constant S_ .f32 0x00000000#32) reducesTo_S4x576x50_S4x576_d2 h_S_)))

/-- The batch coordinate of every update. -/
def atBatch : IVec S4x1x1 32 := broadcastInDim S4x1x1 ![0] bcast_S4_S4x1x1_0 (iotaInDim S4 32 0)

/-- The query coordinate of every update. -/
def atQuery : IVec S1x576x1 32 := broadcastInDim S1x576x1 ![1] bcast_S576_S1x576x1_1 (iotaInDim S576 32 0)

/-- The batch words of the updates. -/
def wordsBatch : IVec S4x576x50x1 32 :=
  broadcastInDim S4x576x50x1 ![0, 1, 2] bcast_S4x576x50_S4x576x50x1_0_1_2
    (broadcastInDim S4x576x50 ![0, 1, 2] bcast_S4x1x1_S4x576x50_0_1_2
      (select (cmpi .slt atBatch (broadcastInDim S4x1x1 ![] bcast_S_S4x1x1 (constantI S_ 32 0#32)))
        (addi atBatch (broadcastInDim S4x1x1 ![] bcast_S_S4x1x1 (constantI S_ 32 4#32))) atBatch))

/-- The query words of the updates. -/
def wordsQuery : IVec S4x576x50x1 32 :=
  broadcastInDim S4x576x50x1 ![0, 1, 2] bcast_S4x576x50_S4x576x50x1_0_1_2
    (broadcastInDim S4x576x50 ![0, 1, 2] bcast_S1x576x1_S4x576x50_0_1_2
      (select (cmpi .slt atQuery (broadcastInDim S1x576x1 ![] bcast_S_S1x576x1 (constantI S_ 32 0#32)))
        (addi atQuery (broadcastInDim S1x576x1 ![] bcast_S_S1x576x1 (constantI S_ 32 576#32))) atQuery))

/-- The memory position words of the updates. -/
def wordsSpot (x : FVec Ideal S4x576x4608 .f32) : IVec S4x576x50x1 32 :=
  broadcastInDim S4x576x50x1 ![0, 1, 2] bcast_S4x576x50_S4x576x50x1_0_1_2
    (select (cmpi .slt (spots x) (broadcastInDim S4x576x50 ![] bcast_S_S4x576x50 (constantI S_ 32 0#32)))
      (addi (spots x) (broadcastInDim S4x576x50 ![] bcast_S_S4x576x50 (constantI S_ 32 4608#32))) (spots x))

/-- The three index words of every update. -/
def words (x : FVec Ideal S4x576x4608 .f32) : IVec S4x576x50x3 32 :=
  concatenate S4x576x50x3 3 [⟨S4x576x50x1, wordsBatch⟩, ⟨S4x576x50x1, wordsQuery⟩, ⟨S4x576x50x1, wordsSpot x⟩]
    concatenates_S4x576x50x1_S4x576x50x1_S4x576x50x1_S4x576x50x3_d3

/-- The weights placed at their memory positions, zero elsewhere. -/
def weights (x : FVec Ideal S4x576x4608 .f32) : FVec Ideal S4x4608x576 .f32 :=
  transpose S4x4608x576 [0, 2, 1]
    (Host.scatter placing (fun _ b => b) (broadcastInDim S4x576x4608 ![] bcast_S_S4x576x4608 (constant S_ .f32 0x00000000#32))
      (words x) (shares x)) transposes_S4x576x4608_S4x4608x576_0_2_1

/-- The scores of one query. -/
abbrev column (x : FVec Ideal S4x576x4608 .f32) (b : Fin 4) (q : Fin 576) : Fin 4608 → EReal := fun k => x (ix3 b q k)

/-- The memory position of the query's `j`-th greatest score. -/
abbrev place (f : Fin 4608 → EReal) (j : Fin 50) : Fin 4608 := order f (j.castLE (by norm_num))

/-- The exponential of the query's `j`-th greatest score less the greatest. -/
def expo (f : Fin 4608 → EReal) (j : Fin 50) : EReal := Ideal.exp (f (place f j) - f (place f 0))

/-- The `j`-th score selected is the column's `j`-th greatest. -/
theorem tops_at (x : FVec Ideal S4x576x4608 .f32) (b : Fin 4) (q : Fin 576) (j : Fin 50) :
    tops x (ix3 b q j) = column x b q (place (column x b q) j) := topK_value x _ _ b q j

/-- The `j`-th position selected is that of the column's `j`-th greatest score. -/
theorem spots_at (x : FVec Ideal S4x576x4608 .f32) (b : Fin 4) (q : Fin 576) (j : Fin 50) :
    spots x (ix3 b q j) = BitVec.ofNat 32 (place (column x b q) j).val := topK_index x _ _ b q j

/-- The exponentials read at a batch, a query and a place. -/
theorem exps_at (x : FVec Ideal S4x576x4608 .f32) (b : Fin 4) (q : Fin 576) (j : Fin 50) :
    exps x (ix3 b q j) = expo (column x b q) j := by
  have h0 := tops_at x b q 0
  have hj := tops_at x b q j
  unfold exps expo
  rw [← h0, ← hj]
  generalize tops x = y
  pointwise

/-- The softmax read at a batch, a query and a place. -/
theorem shares_at (x : FVec Ideal S4x576x4608 .f32) (b : Fin 4) (q : Fin 576) (j : Fin 50) :
    shares x (ix3 b q j) = Ideal.div (expo (column x b q) j) (∑ i, expo (column x b q) i) := by
  simp only [← exps_at]
  unfold shares
  generalize exps x = y
  pointwise

/-- The batch word of an update is its batch. -/
theorem wordsBatch_at (b : Fin 4) (q : Fin 576) (j : Fin 50) : wordsBatch (ix4 b q j 0) = BitVec.ofNat 32 b.val := by
  unfold wordsBatch atBatch
  pointwise
  exact Routing.wrap_of_lt _ _ (by simp; omega)

/-- The query word of an update is its query. -/
theorem wordsQuery_at (b : Fin 4) (q : Fin 576) (j : Fin 50) : wordsQuery (ix4 b q j 0) = BitVec.ofNat 32 q.val := by
  unfold wordsQuery atQuery
  pointwise
  exact Routing.wrap_of_lt _ _ (by simp; omega)

/-- The memory position word of an update is the position of the score it carries. -/
theorem wordsSpot_at (x : FVec Ideal S4x576x4608 .f32) (b : Fin 4) (q : Fin 576) (j : Fin 50) :
    wordsSpot x (ix4 b q j 0) = BitVec.ofNat 32 (place (column x b q) j).val := by
  rw [← spots_at]
  have h : (spots x (ix3 b q j)).toNat < 2 ^ (32 - 1) := by
    rw [spots_at]
    have := (place (column x b q) j).isLt
    simp
    omega
  unfold wordsSpot
  revert h
  generalize spots x = y
  intro h
  pointwise
  exact Routing.wrap_of_lt _ _ h

/-- The three index words of an update. -/
theorem words_at (x : FVec Ideal S4x576x4608 .f32) (b : Fin 4) (q : Fin 576) (j : Fin 50) :
    words x (ix4 b q j 0) = BitVec.ofNat 32 b.val ∧ words x (ix4 b q j 1) = BitVec.ofNat 32 q.val ∧
      words x (ix4 b q j 2) = BitVec.ofNat 32 (place (column x b q) j).val := by
  rw [← wordsBatch_at b q j, ← wordsQuery_at b q j, ← wordsSpot_at x b q j]
  unfold words
  generalize wordsBatch = w0
  generalize wordsQuery = w1
  generalize wordsSpot x = w2
  refine ⟨?_, ?_, ?_⟩ <;> pointwise

/-- A word that holds a memory position stands for it as an integer. -/
theorem toInt_small (n : ℕ) (h : n < 4608) : (BitVec.ofNat 32 n).toInt = n := by
  rw [BitVec.toInt_eq_toNat_of_lt] <;> simp <;> omega

/-- Update `(b, q, j)` lands at query `q` of batch `b`, at the position of the `j`-th greatest score. -/
theorem lands (x : FVec Ideal S4x576x4608 .f32) (b b' : Fin 4) (q q' : Fin 576) (j : Fin 50) (k : Fin 4608) :
    placing.resultIdx? (ix3 b q j) (words x) = some (ix3 b' q' k) ↔ b = b' ∧ q = q' ∧ place (column x b q) j = k := by
  obtain ⟨h0, h1, h2⟩ := words_at x b q j
  have hk := (place (column x b q) j).isLt
  rw [placing_lands, h0, h1, h2, toInt_small _ (by omega), toInt_small _ (by omega), toInt_small _ hk]
  simp only [Nat.cast_inj, Fin.ext_iff]

/-- At the position of the `j`-th greatest score stands its share. -/
theorem weights_hit (x : FVec Ideal S4x576x4608 .f32) (b : Fin 4) (q : Fin 576) (j : Fin 50) :
    weights x (ix3 b (place (column x b q) j) q)
      = Ideal.div (expo (column x b q) j) (∑ i, expo (column x b q) i) := by
  rw [← shares_at]
  have key := Routing.scatter_set_hit placing (broadcastInDim S4x576x4608 ![] bcast_S_S4x576x4608 (constant (F := Ideal) S_ .f32 0x00000000#32))
    (words x) (shares x) (ix3 b q (place (column x b q) j)) (shares x (ix3 b q j)) (by
      intro k hk
      rw [eq_ix3 k] at hk ⊢
      obtain ⟨e0, e1, e2⟩ := (lands x _ _ _ _ _ _).mp hk
      rw [e0, e1] at e2 ⊢
      have : k 2 = j := Fin.castLE_injective _ ((order_bijective (column x b q)).1 e2)
      rw [this]) (ix3 b q j) ((lands x _ _ _ _ _ _).mpr ⟨rfl, rfl, rfl⟩)
  rw [← key]
  unfold weights
  generalize Host.scatter placing _ _ _ _ = y
  pointwise

/-- Elsewhere stands zero. -/
theorem weights_miss (x : FVec Ideal S4x576x4608 .f32) (b : Fin 4) (q : Fin 576) (k : Fin 4608)
    (h : ∀ j, place (column x b q) j ≠ k) : weights x (ix3 b k q) = 0 := by
  have key := Routing.scatter_set_miss placing (broadcastInDim S4x576x4608 ![] bcast_S_S4x576x4608 (constant (F := Ideal) S_ .f32 0x00000000#32))
    (words x) (shares x) (ix3 b q k) (by
      intro k' hk
      rw [eq_ix3 k'] at hk
      obtain ⟨e0, e1, e2⟩ := (lands x _ _ _ _ _ _).mp hk
      rw [e0, e1] at e2
      exact h _ e2)
  have hz : broadcastInDim S4x576x4608 ![] bcast_S_S4x576x4608 (constant (F := Ideal) S_ .f32 0x00000000#32) (ix3 b q k) = (0 : EReal) := by
    pointwise
  rw [hz] at key
  rw [← key]
  unfold weights
  generalize Host.scatter placing _ _ _ _ = y
  pointwise

/-- A contraction with the weights runs over the fifty greatest scores. -/
theorem sum_weights (x : FVec Ideal S4x576x4608 .f32) (b : Fin 4) (q : Fin 576) (v : Fin 4608 → EReal) :
    ∑ k, v k * weights x (ix3 b k q)
      = ∑ j, v (place (column x b q) j) * Ideal.div (expo (column x b q) j) (∑ i, expo (column x b q) i) := by
  have hinj : Function.Injective (place (column x b q)) := fun i j h => by
    have := (order_bijective (column x b q)).1 h
    rwa [Fin.castLE_inj] at this
  simp only [← weights_hit]
  rw [← Finset.sum_image (s := Finset.univ) (g := place (column x b q))
    (f := fun k => v k * weights x (ix3 b k q)) (fun i _ j _ h => hinj h)]
  symm
  refine Finset.sum_subset (Finset.subset_univ _) fun k _ hk => ?_
  rw [weights_miss x b q k, mul_zero]
  intro j hj
  exact hk (Finset.mem_image.mpr ⟨j, Finset.mem_univ _, hj⟩)

end Cert.ReferenceIdeal.Value
-- ==== Proof.Value.Answer.lean ====
/- The reference's result read at an index: a contraction with each object's weights. -/
module

public import proofs.«01_k».proof.Proof.Value.Weights

@[expose] public section

noncomputable section

open Idealize.ShloMosaic

namespace Cert.ReferenceIdeal.Value

open Cert.ReferenceIdeal Cert.ReferenceIdeal.Gen Cert.TopK

/-- One object's part of the result, from its weights, its values and its mask row. -/
def part (W : FVec Ideal S4x4608x576 .f32) (v : FVec Ideal S512x4608 .f32) (o : FVec Ideal S1x4608 .f32)
    (qo : FVec Ideal S4x512x576 .f32) : FVec Ideal S4x1024x576 .f32 :=
  concatenate S4x1024x576 1
    [⟨S4x512x576, transpose S4x512x576 [1, 0, 2] (Host.dotGeneral dot_S512x4608_S4x4608x576_S512x4x576_1_1_0_02_n_n none v W)
        transposes_S512x4x576_S4x512x576_1_0_2⟩,
      ⟨S4x512x576, mulf qo (broadcastInDim S4x512x576 ![0, 1, 2] bcast_S4x1x576_S4x512x576_0_1_2
        (transpose S4x1x576 [1, 0, 2] (Host.dotGeneral dot_S1x4608_S4x4608x576_S1x4x576_1_1_0_02_n_n none o W)
          transposes_S1x4x576_S4x1x576_1_0_2))⟩]
    concatenates_S4x512x576_S4x512x576_S4x1024x576_d1

/-- An upper row of a part contracts the values with the weights. -/
theorem part_upper (W : FVec Ideal S4x4608x576 .f32) (v : FVec Ideal S512x4608 .f32) (o : FVec Ideal S1x4608 .f32)
    (qo : FVec Ideal S4x512x576 .f32) (b : Fin 4) (r : Fin 1024) (q : Fin 576) (h : r.val < 512) :
    part W v o qo (ix3 b r q) = ∑ k, v (ix2 ⟨r.val, h⟩ k) * W (ix3 b k q) := by
  unfold part
  pointwise
  rw [dif_pos h]

/-- A lower row is the query's value times the contraction of the mask row with the weights. -/
theorem part_lower (W : FVec Ideal S4x4608x576 .f32) (v : FVec Ideal S512x4608 .f32) (o : FVec Ideal S1x4608 .f32)
    (qo : FVec Ideal S4x512x576 .f32) (b : Fin 4) (r : Fin 1024) (q : Fin 576) (h : ¬ r.val < 512) :
    part W v o qo (ix3 b r q) = qo (ix3 b ⟨r.val - 512, by omega⟩ q) * ∑ k, o (ix2 0 k) * W (ix3 b k q) := by
  unfold part
  pointwise
  rw [dif_neg h]

/-- The three objects' parts laid side by side. -/
def answer (V : FVec Ideal S3x512x4608 .f32) (O : FVec Ideal S3x1x4608 .f32) (QO : FVec Ideal S4x512x576 .f32)
    (W0 W1 W2 : FVec Ideal S4x4608x576 .f32) : FVec Ideal S4x3x1024x576 .f32 :=
  transpose S4x3x1024x576 [1, 0, 2, 3]
    (concatenate S3x4x1024x576 0
      [⟨S1x4x1024x576, broadcastInDim S1x4x1024x576 ![1, 2, 3] bcast_S4x1024x576_S1x4x1024x576_1_2_3
          (part W0 (shapeCast S512x4608 (extractStridedSlice S1x512x4608 ![0, 0, 0] V slices_S3x512x4608_S1x512x4608_0_0_0) shapeCasts_S1x512x4608_S512x4608)
            (shapeCast S1x4608 (extractStridedSlice S1x1x4608 ![0, 0, 0] O slices_S3x1x4608_S1x1x4608_0_0_0) shapeCasts_S1x1x4608_S1x4608) QO)⟩,
        ⟨S1x4x1024x576, broadcastInDim S1x4x1024x576 ![1, 2, 3] bcast_S4x1024x576_S1x4x1024x576_1_2_3
          (part W1 (shapeCast S512x4608 (extractStridedSlice S1x512x4608 ![1, 0, 0] V slices_S3x512x4608_S1x512x4608_1_0_0) shapeCasts_S1x512x4608_S512x4608)
            (shapeCast S1x4608 (extractStridedSlice S1x1x4608 ![1, 0, 0] O slices_S3x1x4608_S1x1x4608_1_0_0) shapeCasts_S1x1x4608_S1x4608) QO)⟩,
        ⟨S1x4x1024x576, broadcastInDim S1x4x1024x576 ![1, 2, 3] bcast_S4x1024x576_S1x4x1024x576_1_2_3
          (part W2 (shapeCast S512x4608 (extractStridedSlice S1x512x4608 ![2, 0, 0] V slices_S3x512x4608_S1x512x4608_2_0_0) shapeCasts_S1x512x4608_S512x4608)
            (shapeCast S1x4608 (extractStridedSlice S1x1x4608 ![2, 0, 0] O slices_S3x1x4608_S1x1x4608_2_0_0) shapeCasts_S1x1x4608_S1x4608) QO)⟩]
      concatenates_S1x4x1024x576_S1x4x1024x576_S1x4x1024x576_S3x4x1024x576_d0)
    transposes_S3x4x1024x576_S4x3x1024x576_1_0_2_3

/-- The weights of each object by its number. -/
def pick (W0 W1 W2 : FVec Ideal S4x4608x576 .f32) (i : Fin 3) : FVec Ideal S4x4608x576 .f32 := ![W0, W1, W2] i

/-- The result at a batch, an object, a row and a query is the object's part there. -/
theorem answer_at (V : FVec Ideal S3x512x4608 .f32) (O : FVec Ideal S3x1x4608 .f32) (QO : FVec Ideal S4x512x576 .f32)
    (W0 W1 W2 : FVec Ideal S4x4608x576 .f32) (b : Fin 4) (i : Fin 3) (r : Fin 1024) (q : Fin 576) :
    answer V O QO W0 W1 W2 (ix4 b i r q)
      = part (pick W0 W1 W2 i) (fun j => V (ix3 i (j 0) (j 1))) (fun j => O (ix3 i 0 (j 1))) QO (ix3 b r q) := by
  have hV : ∀ (n : ℕ) (hn : n < 3) (h : S3x512x4608.Slices ![n, 0, 0] S1x512x4608),
      shapeCast S512x4608 (extractStridedSlice S1x512x4608 ![n, 0, 0] V h) shapeCasts_S1x512x4608_S512x4608
        = fun j => V (ix3 ⟨n, hn⟩ (j 0) (j 1)) := by
    intro n hn h
    funext j
    pointwise
  have hO : ∀ (n : ℕ) (hn : n < 3) (h : S3x1x4608.Slices ![n, 0, 0] S1x1x4608),
      shapeCast S1x4608 (extractStridedSlice S1x1x4608 ![n, 0, 0] O h) shapeCasts_S1x1x4608_S1x4608
        = fun j => O (ix3 ⟨n, hn⟩ 0 (j 1)) := by
    intro n hn h
    funext j
    pointwise
  unfold answer
  rw [hV 0 (by norm_num), hV 1 (by norm_num), hV 2 (by norm_num), hO 0 (by norm_num), hO 1 (by norm_num), hO 2 (by norm_num)]
  match i with
  | ⟨0, _⟩ =>
    show _ = part W0 _ _ QO _
    generalize part W0 _ _ QO = p0
    generalize part W1 _ _ QO = p1
    generalize part W2 _ _ QO = p2
    pointwise
  | ⟨1, _⟩ =>
    show _ = part W1 _ _ QO _
    generalize part W0 _ _ QO = p0
    generalize part W1 _ _ QO = p1
    generalize part W2 _ _ QO = p2
    pointwise
  | ⟨2, _⟩ =>
    show _ = part W2 _ _ QO _
    generalize part W0 _ _ QO = p0
    generalize part W1 _ _ QO = p1
    generalize part W2 _ _ QO = p2
    pointwise

end Cert.ReferenceIdeal.Value
-- ==== Proof.Value.Pattern.lean ====
module

public import Idealize.ShloMosaic.PureOps.Ideal
public import Idealize.ShloMosaic.Lib.SortNet.Words

@[expose] public section

open Idealize.ShloMosaic

namespace Cert.TopK

/-- The integer significand of a magnitude pattern, scaled by its exponent. -/
def sig (m : ℕ) : ℕ := ((if m / 2 ^ 23 = 0 then 0 else 2 ^ 23) + m % 2 ^ 23) * 2 ^ max (m / 2 ^ 23) 1

/-- The extended real a magnitude pattern stands for. -/
noncomputable def mag (m : ℕ) : EReal :=
  if 255 * 2 ^ 23 ≤ m then ⊤ else (((sig m : ℝ) * (2 : ℝ) ^ (-150 : ℤ) : ℝ) : EReal)

/-- The extended real an ordered pattern stands for: the upper half counts up from zero,
the lower half counts the magnitude down. -/
noncomputable def val (p : ℕ) : EReal :=
  if 2 ^ 31 ≤ p then mag (p - 2 ^ 31) else - mag (2 ^ 31 - 1 - p)

/-- The float pattern of an ordered pattern: the top bit flips, and a pattern that was in the
lower half flips its other bits as well. -/
def pattern (p : BitVec 32) : BitVec 32 :=
  if (p ^^^ 0x80000000#32).slt 0#32 then (p ^^^ 0x80000000#32) ^^^ 0x7FFFFFFF#32 else p ^^^ 0x80000000#32

/-- A nonnegative float pattern up to infinity reads as its magnitude. -/
theorem ieee_pos (b : BitVec 32) (h : b.toNat ≤ 255 * 2 ^ 23) : Ideal.ieee 8 23 b = mag b.toNat := by
  have hs : (b.extractLsb' (8 + 23) 1 == 1#1) = false := by
    rw [beq_eq_false_iff_ne]
    intro hh
    have := congrArg BitVec.toNat hh
    rw [BitVec.extractLsb'_toNat, Nat.shiftRight_eq_div_pow] at this
    simp at this
    omega
  have he : (b.extractLsb' 23 8).toNat = b.toNat / 2 ^ 23 := by
    rw [BitVec.extractLsb'_toNat, Nat.shiftRight_eq_div_pow]
    omega
  have hf : (b.extractLsb' 0 23).toNat = b.toNat % 2 ^ 23 := by
    rw [BitVec.extractLsb'_toNat, Nat.shiftRight_eq_div_pow]
    simp
  unfold Ideal.ieee mag sig
  simp only [hs, he, hf]
  generalize b.toNat = m at *
  by_cases h1 : 255 * 2 ^ 23 ≤ m
  · have : m = 255 * 2 ^ 23 := by omega
    subst this
    simp
  · rw [if_neg h1, if_neg (by omega)]
    by_cases h0 : m / 2 ^ 23 = 0
    · simp only [h0, if_true]
      refine congrArg Real.toEReal ?_
      push_cast
      norm_num
      try ring
    · simp only [h0, if_false]
      have : max (m / 2 ^ 23) 1 = m / 2 ^ 23 := by omega
      rw [this]
      refine congrArg Real.toEReal ?_
      have hz : (2 : ℝ) ^ (((m / 2 ^ 23 : ℕ) : ℤ) - (2 ^ (8 - 1) - 1) - (23 : ℕ))
          = 2 ^ (m / 2 ^ 23) * 2 ^ (-150 : ℤ) := by
        rw [← zpow_natCast, ← zpow_add₀ (by norm_num)]
        congr 1
        push_cast
        ring
      rw [hz]
      push_cast
      ring

/-- A negative float pattern reads as minus its magnitude. -/
theorem ieee_neg (b : BitVec 32) (h : 2 ^ 31 ≤ b.toNat) : Ideal.ieee 8 23 b = - mag (b.toNat - 2 ^ 31) := by
  have hlt := b.isLt
  have hs : (b.extractLsb' (8 + 23) 1 == 1#1) = true := by
    rw [beq_iff_eq]
    apply BitVec.eq_of_toNat_eq
    rw [BitVec.extractLsb'_toNat, Nat.shiftRight_eq_div_pow]
    simp
    omega
  have he : (b.extractLsb' 23 8).toNat = (b.toNat - 2 ^ 31) / 2 ^ 23 := by
    rw [BitVec.extractLsb'_toNat, Nat.shiftRight_eq_div_pow]
    omega
  have hf : (b.extractLsb' 0 23).toNat = (b.toNat - 2 ^ 31) % 2 ^ 23 := by
    rw [BitVec.extractLsb'_toNat, Nat.shiftRight_eq_div_pow]
    simp
    omega
  unfold Ideal.ieee mag sig
  simp only [hs, he, hf]
  generalize hm : b.toNat - 2 ^ 31 = m at *
  have hm' : m < 2 ^ 31 := by omega
  by_cases h1 : 255 * 2 ^ 23 ≤ m
  · rw [if_pos h1, if_pos (by omega)]
    simp
  · rw [if_neg h1, if_neg (by omega), ← EReal.coe_neg]
    by_cases h0 : m / 2 ^ 23 = 0
    · simp only [h0, if_true]
      refine congrArg Real.toEReal ?_
      push_cast
      norm_num
      try ring
    · simp only [h0, if_false]
      have : max (m / 2 ^ 23) 1 = m / 2 ^ 23 := by omega
      rw [this]
      refine congrArg Real.toEReal ?_
      have hz : (2 : ℝ) ^ (((m / 2 ^ 23 : ℕ) : ℤ) - (2 ^ (8 - 1) - 1) - (23 : ℕ))
          = 2 ^ (m / 2 ^ 23) * 2 ^ (-150 : ℤ) := by
        rw [← zpow_natCast, ← zpow_add₀ (by norm_num)]
        refine congrArg (fun z : ℤ => (2 : ℝ) ^ z) ?_
        push_cast
        ring
      rw [hz]
      push_cast
      ring

/-- An ordered pattern up to the one of infinity decodes to its value. -/
theorem pattern_val (p : BitVec 32) (h : p.toNat ≤ 511 * 2 ^ 23) :
    Ideal.ieee 8 23 (pattern p) = val p.toNat := by
  have hlt := p.isLt
  have hx : (p ^^^ 0x80000000#32).toNat = if p.toNat < 2 ^ 31 then p.toNat + 2 ^ 31 else p.toNat - 2 ^ 31 := by
    rw [BitVec.toNat_xor, show (0x80000000#32).toNat = 2 ^ 31 from rfl, SortNet.xor_two_pow_top _ (by omega)]
  unfold pattern val
  by_cases hp : 2 ^ 31 ≤ p.toNat
  · rw [if_neg (by omega)] at hx
    have hs : (p ^^^ 0x80000000#32).slt 0#32 = false := by
      rw [BitVec.slt, decide_eq_false_iff_not, BitVec.toInt_eq_toNat_of_lt (by omega), BitVec.toInt_zero]
      omega
    rw [hs, if_pos hp, if_neg Bool.false_ne_true, ieee_pos _ (by omega), hx]
  · rw [if_pos (by omega)] at hx
    have hs : (p ^^^ 0x80000000#32).slt 0#32 = true := by
      rw [BitVec.slt, decide_eq_true_iff, BitVec.toInt_eq_toNat_cond, BitVec.toInt_zero, if_neg (by omega)]
      omega
    have hn : (p ^^^ 0x80000000#32) ^^^ 0x7FFFFFFF#32 = ~~~ p := by
      rw [BitVec.xor_assoc, show (0x80000000#32 ^^^ 0x7FFFFFFF#32 : BitVec 32) = BitVec.allOnes 32 from rfl,
        BitVec.xor_allOnes]
    have hm : 2 ^ 32 - 1 - p.toNat - 2 ^ 31 = 2 ^ 31 - 1 - p.toNat := by
      clear hn hs hx
      omega
    have hn' : (~~~ p).toNat = 2 ^ 32 - 1 - p.toNat := BitVec.toNat_not
    have h2 : 2 ^ 31 ≤ (~~~ p).toNat := by
      clear hn hs hx hm
      omega
    rw [hs, if_neg hp, if_pos rfl, hn, ieee_neg _ h2, hn', hm]

end Cert.TopK
-- ==== Proof.Value.Bisect.lean ====
/- The bisection over ordered patterns, and how close its threshold is to the value it looks for. -/
module

public import proofs.«01_k».proof.Proof.Value.Pattern

@[expose] public section

open Idealize.ShloMosaic

namespace Cert.TopK

/-- What each element of a left fold over the first `n` indices keeps holds at its end. -/
theorem foldl_finRange_keeps {α : Type} (P : ℕ → α → Prop) : ∀ {n : ℕ} (f : α → Fin n → α) (a : α), P 0 a →
    (∀ (k : Fin n) (b : α), P k.val b → P (k.val + 1) (f b k)) → P n ((List.finRange n).foldl f a)
  | 0, _, _, h0, _ => by simpa using h0
  | n + 1, f, a, h0, hs => by
    rw [List.finRange_succ_last, List.foldl_append, List.foldl_map]
    exact hs (Fin.last n) _ (foldl_finRange_keeps P (fun b k => f b k.castSucc) a h0 fun k b hb => hs k.castSucc b hb)

/-- One halving: the kept pattern stays the largest multiple whose value the sought value reaches. -/
theorem halve (v : EReal) (hv : v < ⊤) (hit : BitVec 32 → Prop)
    (H : ∀ p : BitVec 32, p.toNat ≤ 511 * 2 ^ 23 → (hit p ↔ val p.toNat ≤ v))
    (t b : BitVec 32) (j : ℕ) (hj : 10 ≤ j) (hj' : j ≤ 31) (hb : b.toNat = 2 ^ j)
    (ht : t.toNat % 2 ^ (j + 1) = 0) (h1 : val t.toNat ≤ v) (h2 : v < val (t.toNat + 2 ^ (j + 1)))
    (r : BitVec 32) (hr : hit (t ||| b) ∧ r = t ||| b ∨ ¬ hit (t ||| b) ∧ r = t) :
    r.toNat % 2 ^ j = 0 ∧ val r.toNat ≤ v ∧ v < val (r.toNat + 2 ^ j) := by
  have hc : (t ||| b).toNat = t.toNat + 2 ^ j := by
    rw [BitVec.toNat_or, hb]
    have hlt : 2 ^ j < 2 ^ (j + 1) := Nat.pow_lt_pow_right (by norm_num) (by omega)
    have e := Nat.two_pow_add_eq_or_of_lt hlt (t.toNat / 2 ^ (j + 1))
    have hd : 2 ^ (j + 1) * (t.toNat / 2 ^ (j + 1)) = t.toNat := by
      have := Nat.div_add_mod t.toNat (2 ^ (j + 1))
      omega
    rw [hd] at e
    exact e.symm
  have htop : t.toNat < 511 * 2 ^ 23 := by
    by_contra hn
    have : val t.toNat = ⊤ := by
      unfold val mag
      rw [if_pos (by omega), if_pos (by omega)]
    rw [this] at h1
    exact absurd hv (not_lt.mpr h1)
  have hle : (t ||| b).toNat ≤ 511 * 2 ^ 23 := by
    rw [hc]
    have := t.isLt
    clear hr h1 h2 hc hb H
    generalize t.toNat = n at *
    interval_cases j <;> omega
  have hm : t.toNat % 2 ^ j = 0 :=
    Nat.mod_eq_zero_of_dvd ((pow_dvd_pow 2 (by omega)).trans (Nat.dvd_of_mod_eq_zero ht))
  rcases hr with ⟨hh, rfl⟩ | ⟨hh, rfl⟩
  · refine ⟨?_, (H _ hle).mp hh, ?_⟩
    · rw [hc, Nat.add_mod_right, hm]
    · rw [hc, add_assoc, ← two_mul, ← pow_succ']
      exact h2
  · refine ⟨hm, h1, ?_⟩
    have := (H _ hle).not.mp hh
    rw [hc] at this
    exact not_le.mp this

/-- The bisection of 22 trips ends at the largest multiple of 1024 whose value the sought value reaches. -/
theorem bisect (v : EReal) (hv : v < ⊤) (hit : BitVec 32 → Prop)
    (H : ∀ p : BitVec 32, p.toNat ≤ 511 * 2 ^ 23 → (hit p ↔ val p.toNat ≤ v))
    (f : BitVec 32 → Fin 22 → BitVec 32) (b : Fin 22 → BitVec 32) (hb : ∀ k, (b k).toNat = 2 ^ (31 - k.val))
    (hf : ∀ t k, hit (t ||| b k) ∧ f t k = t ||| b k ∨ ¬ hit (t ||| b k) ∧ f t k = t) :
    ((List.finRange 22).foldl f 0#32).toNat % 1024 = 0 ∧ val ((List.finRange 22).foldl f 0#32).toNat ≤ v ∧
      v < val (((List.finRange 22).foldl f 0#32).toNat + 1024) := by
  refine foldl_finRange_keeps
    (fun k t => t.toNat % 2 ^ (32 - k) = 0 ∧ val t.toNat ≤ v ∧ v < val (t.toNat + 2 ^ (32 - k))) f 0#32 ?_ ?_
  · refine ⟨rfl, ?_, ?_⟩
    · have : val (0#32).toNat = ⊥ := by
        unfold val mag
        simp
      rw [this]
      exact bot_le
    · have : val ((0#32).toNat + 2 ^ (32 - 0)) = ⊤ := by
        unfold val mag
        simp
      rw [this]
      exact hv
  · rintro k t ⟨h0, h1, h2⟩
    have hk := k.isLt
    have e : 32 - k.val = (31 - k.val) + 1 := by omega
    have e' : 32 - (k.val + 1) = 31 - k.val := by omega
    rw [e] at h0 h2
    rw [e']
    exact halve v hv hit H t (b k) (31 - k.val) (by omega) (by omega) (hb k) h0 h1 h2 _ (hf t k)

/-- Adding 1024 to a magnitude pattern adds at most one part in 8192 of the magnitude, or next to nothing. -/
theorem sig_step (m : ℕ) (h : m % 1024 = 0 ∨ m % 1024 = 1023) :
    sig (m + 1024) * 2 ^ 13 ≤ sig m * 2 ^ 13 + max (sig m) (2 ^ 50) := by
  unfold sig
  by_cases hc : m % 2 ^ 23 + 1024 < 2 ^ 23
  · have e1 : (m + 1024) / 2 ^ 23 = m / 2 ^ 23 := by omega
    have e2 : (m + 1024) % 2 ^ 23 = m % 2 ^ 23 + 1024 := by omega
    rw [e1, e2]
    by_cases h0 : m / 2 ^ 23 = 0
    · rw [h0]
      simp
      omega
    · rw [if_neg h0]
      refine le_trans ?_ (Nat.add_le_add_left (le_max_left _ _) _)
      generalize 2 ^ max (m / 2 ^ 23) 1 = q
      generalize m % 2 ^ 23 = f
      nlinarith [Nat.zero_le (f * q)]
  · have e1 : (m + 1024) / 2 ^ 23 = m / 2 ^ 23 + 1 := by omega
    have e2 : (m + 1024) % 2 ^ 23 = m % 2 ^ 23 + 1024 - 2 ^ 23 := by omega
    have hf : m % 2 ^ 23 = 2 ^ 23 - 1024 ∨ m % 2 ^ 23 = 2 ^ 23 - 1 := by omega
    rw [e1, e2, if_neg (by omega), max_eq_left (by omega : 1 ≤ m / 2 ^ 23 + 1)]
    by_cases h0 : m / 2 ^ 23 = 0
    · rw [h0]
      rcases hf with hf | hf <;> rw [hf] <;> norm_num
    · rw [if_neg h0, max_eq_left (by omega : 1 ≤ m / 2 ^ 23)]
      refine le_trans ?_ (Nat.add_le_add_left (le_max_left _ _) _)
      rw [pow_succ 2 (m / 2 ^ 23)]
      generalize 2 ^ (m / 2 ^ 23) = q
      rcases hf with hf | hf <;> rw [hf] <;> norm_num <;> omega

/-- The least unit of the patterns. -/
noncomputable def unit : ℝ := (2 : ℝ) ^ (-150 : ℤ)

/-- The least unit is positive. -/
theorem unit_pos : 0 < unit := by
  unfold unit
  positivity

/-- A finite pattern's magnitude is its whole significand times the least unit. -/
theorem mag_fin (m : ℕ) (h : m < 255 * 2 ^ 23) : mag m = (((sig m : ℝ) * unit : ℝ) : EReal) := by
  unfold mag unit
  rw [if_neg (by omega)]

/-- The step of a magnitude pattern, in reals. -/
theorem sig_step_real (m : ℕ) (h : m % 1024 = 0 ∨ m % 1024 = 1023) (x : ℝ) (hx : (sig m : ℝ) * unit ≤ x) :
    (sig (m + 1024) : ℝ) * unit ≤ (sig m : ℝ) * unit + max x (2 ^ 50 * unit) * (1 / 2 ^ 13) := by
  have h1 : ((sig (m + 1024) * 2 ^ 13 : ℕ) : ℝ) ≤ ((sig m * 2 ^ 13 + max (sig m) (2 ^ 50) : ℕ) : ℝ) :=
    Nat.cast_le.mpr (sig_step m h)
  push_cast at h1
  have hu := unit_pos
  have h2 : max (sig m : ℝ) (2 ^ 50) * unit ≤ max x (2 ^ 50 * unit) := by
    rw [max_mul_of_nonneg _ _ hu.le]
    exact max_le_max hx le_rfl
  have h3 := mul_le_mul_of_nonneg_right h1 hu.le
  have e : (1125899906842624 : ℝ) = 2 ^ 50 := by norm_num
  rw [e] at h3
  generalize max x (2 ^ 50 * unit) = Y at *
  generalize max (sig m : ℝ) (2 ^ 50) = X at *
  norm_num
  linarith

/-- Patterns of the largest finite magnitudes lie beyond the bound put on the sought value. -/
theorem sig_large : sig 0x7F61B1E6 < sig (255 * 2 ^ 23 - 1024) ∧ sig 0x7F61B1E6 < sig (255 * 2 ^ 23 - 1) := by
  unfold sig
  norm_num

/-- The threshold the bisection ends at lies above the sought value less one part in 8192 of it. -/
theorem val_close (t : ℕ) (h0 : t % 1024 = 0) (v : ℝ) (hb : |v| < (sig 0x7F61B1E6 : ℝ) * unit)
    (h1 : val t ≤ (v : EReal)) (h2 : (v : EReal) < val (t + 1024)) :
    ((v - max |v| (2 ^ 50 * unit) * (1 / 2 ^ 13) : ℝ) : EReal) < val t := by
  have hu := unit_pos
  obtain ⟨hl1, hl2⟩ := sig_large
  have hl1' : (sig 0x7F61B1E6 : ℝ) * unit < (sig (255 * 2 ^ 23 - 1024) : ℝ) * unit :=
    mul_lt_mul_of_pos_right (Nat.cast_lt.mpr hl1) hu
  have hl2' : (sig 0x7F61B1E6 : ℝ) * unit < (sig (255 * 2 ^ 23 - 1) : ℝ) * unit :=
    mul_lt_mul_of_pos_right (Nat.cast_lt.mpr hl2) hu
  have ha := neg_abs_le v
  have ha' := le_abs_self v
  by_cases hs : 2 ^ 31 ≤ t
  · obtain ⟨m, rfl⟩ := Nat.exists_eq_add_of_le hs
    unfold val at h1 h2 ⊢
    rw [if_pos hs] at h1 ⊢
    rw [if_pos (by omega)] at h2
    rw [show 2 ^ 31 + m - 2 ^ 31 = m by omega] at h1 ⊢
    rw [show 2 ^ 31 + m + 1024 - 2 ^ 31 = m + 1024 by omega] at h2
    have hm0 : m % 1024 = 0 := by omega
    have hm : m < 255 * 2 ^ 23 := by
      by_contra hn
      unfold mag at h1
      rw [if_pos (by omega)] at h1
      exact absurd (EReal.coe_lt_top v) (not_lt.mpr h1)
    rw [mag_fin m hm] at h1 ⊢
    rw [EReal.coe_le_coe_iff] at h1
    rw [EReal.coe_lt_coe_iff]
    by_cases hm' : m + 1024 < 255 * 2 ^ 23
    · rw [mag_fin _ hm', EReal.coe_lt_coe_iff] at h2
      have h3 := sig_step_real m (Or.inl hm0) |v| (h1.trans ha')
      linarith
    · have : m = 255 * 2 ^ 23 - 1024 := by omega
      subst this
      linarith
  · unfold val at h1 h2 ⊢
    rw [if_neg hs] at h1 ⊢
    have hM : (2 ^ 31 - 1 - t) % 1024 = 1023 := by omega
    by_cases ht : t + 1024 = 2 ^ 31
    · rw [if_pos (by omega), show t + 1024 - 2 ^ 31 = 0 by omega, mag_fin 0 (by norm_num), EReal.coe_lt_coe_iff] at h2
      rw [show 2 ^ 31 - 1 - t = 1023 by omega, mag_fin 1023 (by norm_num), ← EReal.coe_neg, EReal.coe_lt_coe_iff]
      have e0 : sig 0 = 0 := by unfold sig; norm_num
      have e1 : sig 1023 = 2046 := by unfold sig; norm_num
      rw [e0] at h2
      rw [e1]
      have h3 := le_max_right |v| (2 ^ 50 * unit)
      generalize max |v| (2 ^ 50 * unit) = X at *
      norm_num at h2 h3 ⊢
      linarith
    · rw [if_neg (by omega)] at h2
      generalize hMe : 2 ^ 31 - 1 - (t + 1024) = M at h2
      rw [show 2 ^ 31 - 1 - t = M + 1024 by omega] at h1 hM ⊢
      have hm : M < 255 * 2 ^ 23 := by
        by_contra hn
        unfold mag at h2
        rw [if_pos (by omega)] at h2
        simp at h2
      rw [mag_fin M hm, ← EReal.coe_neg, EReal.coe_lt_coe_iff] at h2
      have h4 : (sig M : ℝ) * unit ≤ |v| := by linarith [neg_le_abs v]
      by_cases hm' : M + 1024 < 255 * 2 ^ 23
      · rw [mag_fin _ hm', ← EReal.coe_neg, EReal.coe_lt_coe_iff]
        have h3 := sig_step_real M (Or.inr (by omega)) |v| h4
        linarith
      · have : M = 255 * 2 ^ 23 - 1 := by omega
        subst this
        linarith

end Cert.TopK
-- ==== Proof.Value.Consts.lean ====
/- The float constants of the three programs, as the extended reals their patterns denote. -/
module

public import proofs.«01_k».proof.Proof.Value.Bisect

@[expose] public section

noncomputable section

open Idealize.ShloMosaic

namespace Cert.TopK

/-- `128.0` denotes 128. -/
theorem bits_128 : Ideal.ofBits .f32 0x43000000#32 = ((128 : ℝ) : EReal) := by
  simp [Ideal.ofBits, Ideal.ieee, -EReal.coe_mul]; norm_num

/-- `50.0` denotes 50. -/
theorem bits_50 : Ideal.ofBits .f32 0x42480000#32 = ((50 : ℝ) : EReal) := by
  simp [Ideal.ofBits, Ideal.ieee, -EReal.coe_mul]; norm_num

/-- The pattern of infinity denotes infinity. -/
theorem bits_inf : Ideal.ofBits .f32 0x7F800000#32 = ⊤ := by
  simp [Ideal.ofBits, Ideal.ieee]

/-- The pattern of minus infinity denotes minus infinity. -/
theorem bits_neg_inf : Ideal.ofBits .f32 0xFF800000#32 = ⊥ := by
  simp [Ideal.ofBits, Ideal.ieee]

/-- The bound put on the fiftieth score. -/
theorem bits_bound : Ideal.ofBits .f32 0x7F61B1E6#32 = (((sig 0x7F61B1E6 : ℝ) * unit : ℝ) : EReal) := by
  rw [← mag_fin 0x7F61B1E6 (by norm_num)]
  exact ieee_pos 0x7F61B1E6#32 (by decide)

/-- The least magnitude the separation is taken relative to. -/
theorem bits_floor : Ideal.ofBits .f32 0x0D800000#32 = ((2 ^ 50 * unit : ℝ) : EReal) := by
  have h : Ideal.ofBits .f32 0x0D800000#32 = mag 0x0D800000 := ieee_pos 0x0D800000#32 (by decide)
  rw [h, mag_fin 0x0D800000 (by norm_num)]
  refine congrArg Real.toEReal ?_
  unfold sig
  norm_num

/-- The relative separation. -/
theorem bits_gap : Ideal.ofBits .f32 0x39000000#32 = ((1 / 2 ^ 13 : ℝ) : EReal) := by
  have h : Ideal.ofBits .f32 0x39000000#32 = mag 0x39000000 := ieee_pos 0x39000000#32 (by decide)
  rw [h, mag_fin 0x39000000 (by norm_num)]
  refine congrArg Real.toEReal ?_
  unfold sig unit
  norm_num

end Cert.TopK
-- ==== Proof.Value.Scores.lean ====
/- The reference's scores of each object, read at an index. -/
module

public import proofs.«01_k».proof.Proof.Value.Answer
public import proofs.«01_k».proof.Proof.Value.Consts

@[expose] public section

noncomputable section

open Idealize.ShloMosaic

namespace Cert.TopK

/-- The scores of object `i` for query `q` of batch `b`: the scaled products of the keys with the query. -/
def score (K : FVec Ideal ⟨3, ![3, 128, 4608]⟩ .f32) (Q : FVec Ideal ⟨3, ![4, 128, 576]⟩ .f32) (i : Fin 3) (b : Fin 4) (q : Fin 576) :
    Fin 4608 → EReal :=
  fun k => Ideal.div (∑ c, K (ix3 i c k) * Q (ix3 b c q)) ((Real.sqrt 128 : ℝ) : EReal)

end Cert.TopK

namespace Cert.ReferenceIdeal.Value

open Cert.ReferenceIdeal Cert.ReferenceIdeal.Gen Cert.TopK

/-- The scores of one object from the object's keys. -/
def scoresOf (K : FVec Ideal S128x4608 .f32) (Q : FVec Ideal S4x128x576 .f32) : FVec Ideal S4x576x4608 .f32 :=
  transpose S4x576x4608 [0, 2, 1] (Host.divf (transpose S4x4608x576 [1, 0, 2]
    (Host.dotGeneral dot_S4608x128_S4x128x576_S4608x4x576_1_1_0_02_n_n none
      (transpose S4608x128 [1, 0] K transposes_S128x4608_S4608x128_1_0) Q) transposes_S4608x4x576_S4x4608x576_1_0_2)
    (broadcastInDim S4x4608x576 ![] bcast_S_S4x4608x576 (Host.sqrt (constant S_ .f32 0x43000000#32))))
    transposes_S4x4608x576_S4x576x4608_0_2_1

/-- The reference's divisor is the root of 128. -/
theorem root_at (j : S_.Idx) : Host.sqrt (constant (F := Ideal) S_ .f32 0x43000000#32) j = ((Real.sqrt 128 : ℝ) : EReal) := by
  show Ideal.sqrt (Ideal.ofBits .f32 0x43000000#32) = _
  rw [bits_128, Ideal.sqrt_coe, if_neg (by norm_num)]

/-- The scores of one object read at a batch, a query and a memory position. -/
theorem scoresOf_at (K : FVec Ideal S128x4608 .f32) (Q : FVec Ideal S4x128x576 .f32) (b : Fin 4) (q : Fin 576) (k : Fin 4608) :
    scoresOf K Q (ix3 b q k) = Ideal.div (∑ c, K (ix2 c k) * Q (ix3 b c q)) ((Real.sqrt 128 : ℝ) : EReal) := by
  unfold scoresOf
  have hr : Host.sqrt (constant (F := Ideal) S_ .f32 0x43000000#32) = fun _ => ((Real.sqrt 128 : ℝ) : EReal) :=
    funext root_at
  rw [hr]
  pointwise

/-- The keys sliced for object `n` are that object's keys. -/
theorem keys_at (n : ℕ) (hn : n < 3) (h : S3x128x4608.Slices ![n, 0, 0] S1x128x4608) (K : FVec Ideal S3x128x4608 .f32)
    (c : Fin 128) (k : Fin 4608) :
    shapeCast S128x4608 (extractStridedSlice S1x128x4608 ![n, 0, 0] K h) shapeCasts_S1x128x4608_S128x4608 (ix2 c k)
      = K (ix3 ⟨n, hn⟩ c k) := by
  pointwise

/-- The printed scores of object `n` are `score`. -/
theorem scores_column (n : ℕ) (hn : n < 3) (h : S3x128x4608.Slices ![n, 0, 0] S1x128x4608) (K : FVec Ideal S3x128x4608 .f32)
    (Q : FVec Ideal S4x128x576 .f32) (b : Fin 4) (q : Fin 576) :
    column (scoresOf (shapeCast S128x4608 (extractStridedSlice S1x128x4608 ![n, 0, 0] K h) shapeCasts_S1x128x4608_S128x4608) Q) b q
      = score K Q ⟨n, hn⟩ b q := by
  funext k
  show scoresOf _ Q (ix3 b q k) = _
  rw [scoresOf_at]
  unfold score
  simp only [keys_at n hn h]

end Cert.ReferenceIdeal.Value
-- ==== Proof.Value.Separated.lean ====
/- What the precondition says of each query's scores. -/
module

public import proofs.«01_k».proof.Proof.Value.Scores
public import proofs.«01_k».proof.Pre_separated
public import proofs.«01_k».proof.Proof.Gen.Pre_separated

@[expose] public section

noncomputable section

open Idealize.ShloMosaic

namespace Cert.Pre_separated

open Cert.Pre_separated.Gen Cert.TopK

/-- The printed test of one object, as a function of its scores. -/
def test (x : FVec Ideal S4x576x4608 .f32) : IVec S4x576 1 :=
  let y : FVec Ideal S4x576x51 .f32 := (Host.topK S4x576x51 2 (FloatOps.cmpfTotal .gt) x sliceFits_S4x576x4608_S4x576x51).1
  let last : FVec Ideal S4x576 .f32 := shapeCast S4x576 (extractStridedSlice S4x576x1 ![0, 0, 49] y slices_S4x576x51_S4x576x1_0_0_49) shapeCasts_S4x576x1_S4x576
  let next : FVec Ideal S4x576 .f32 := shapeCast S4x576 (extractStridedSlice S4x576x1 ![0, 0, 50] y slices_S4x576x51_S4x576x1_0_0_50) shapeCasts_S4x576x1_S4x576
  let first : FVec Ideal S4x576 .f32 := shapeCast S4x576 (extractStridedSlice S4x576x1 ![0, 0, 0] y slices_S4x576x51_S4x576x1_0_0_0) shapeCasts_S4x576x1_S4x576
  andi (andi (cmpf .olt first (broadcastInDim S4x576 ![] bcast_S_S4x576 (constant S_ .f32 0x7F800000#32)))
      (cmpf .olt (Host.absf last) (broadcastInDim S4x576 ![] bcast_S_S4x576 (constant S_ .f32 0x7F61B1E6#32))))
    (cmpf .oge (subf last next)
      (mulf (maximumf (Host.absf last) (broadcastInDim S4x576 ![] bcast_S_S4x576 (constant S_ .f32 0x0D800000#32)))
        (broadcastInDim S4x576 ![] bcast_S_S4x576 (constant S_ .f32 0x39000000#32))))

/-- The three tests side by side. -/
def tests (x0 x1 x2 : FVec Ideal S4x576x4608 .f32) : IVec S3x4x576 1 :=
  concatenate S3x4x576 0 [⟨S1x4x576, broadcastInDim S1x4x576 ![1, 2] bcast_S4x576_S1x4x576_1_2 (test x0)⟩,
    ⟨S1x4x576, broadcastInDim S1x4x576 ![1, 2] bcast_S4x576_S1x4x576_1_2 (test x1)⟩,
    ⟨S1x4x576, broadcastInDim S1x4x576 ![1, 2] bcast_S4x576_S1x4x576_1_2 (test x2)⟩]
    concatenates_S1x4x576_S1x4x576_S1x4x576_S3x4x576_d0

/-- The printed scores of one object. -/
abbrev scoresAt (n : ℕ) (h : S3x128x4608.Slices ![n, 0, 0] S1x128x4608) (K : FVec Ideal S3x128x4608 .f32)
    (Q : FVec Ideal S4x128x576 .f32) : FVec Ideal S4x576x4608 .f32 :=
  Cert.ReferenceIdeal.Value.scoresOf (shapeCast S128x4608 (extractStridedSlice S1x128x4608 ![n, 0, 0] K h) shapeCasts_S1x128x4608_S128x4608) Q

/-- The precondition is the three objects' tests laid side by side. -/
theorem fn_eq (K : FVec Ideal S3x128x4608 .f32) (V : FVec Ideal S3x512x4608 .f32) (O : FVec Ideal S3x1x4608 .f32)
    (Q : FVec Ideal S4x128x576 .f32) (QO : FVec Ideal S4x512x576 .f32) (a b : IVec S_ 32) :
    fn (F := Ideal) K V O Q QO a b
      = tests (scoresAt 0 slices_S3x128x4608_S1x128x4608_0_0_0 K Q) (scoresAt 1 slices_S3x128x4608_S1x128x4608_1_0_0 K Q)
          (scoresAt 2 slices_S3x128x4608_S1x128x4608_2_0_0 K Q) := rfl

/-- Entry `j` of a column's descending order. -/
abbrev nth (f : Fin 4608 → EReal) (j : Fin 51) : EReal := f (order f (j.castLE (by norm_num)))

/-- What the test says of a column: its greatest entry is below infinity, its fiftieth is bounded, and its
fifty-first lies below the fiftieth by a part of it. -/
structure Apart (f : Fin 4608 → EReal) : Prop where
  first : nth f 0 < ⊤
  bounded : max (nth f 49) (- nth f 49) < (((sig 0x7F61B1E6 : ℝ) * unit : ℝ) : EReal)
  gap : max (max (nth f 49) (- nth f 49)) ((2 ^ 50 * unit : ℝ) : EReal) * ((1 / 2 ^ 13 : ℝ) : EReal) ≤ nth f 49 - nth f 50

/-- The bit of a decision is one when the decision holds. -/
theorem ofBool_one (p : Prop) [Decidable p] : BitVec.ofBool (decide p) = 1#1 ↔ p := by
  by_cases h : p <;> simp [h]

/-- The conjunction of two bits is one when both are. -/
theorem and_one (x y : BitVec 1) : IntOp.andi x y = 1#1 ↔ x = 1#1 ∧ y = 1#1 := by
  revert x y
  decide

/-- A test that holds says that the column's fifty greatest scores stand apart from the rest. -/
theorem test_apart (x : FVec Ideal S4x576x4608 .f32) (b : Fin 4) (q : Fin 576) (h : test x (ix2 b q) = 1#1) :
    Apart (fun k => x (ix3 b q k)) := by
  have h0 := topK_value x sliceFits_S4x576x4608_S4x576x51 (by norm_num) b q 0
  have h49 := topK_value x sliceFits_S4x576x4608_S4x576x51 (by norm_num) b q 49
  have h50 := topK_value x sliceFits_S4x576x4608_S4x576x51 (by norm_num) b q 50
  unfold test at h
  revert h h0 h49 h50
  generalize (Host.topK S4x576x51 2 (FloatOps.cmpfTotal .gt) x sliceFits_S4x576x4608_S4x576x51).1 = y
  intro h h0 h49 h50
  have e : ∀ j : Fin 51, ∀ hs : S4x576x51.Slices ![0, 0, j.val] S4x576x1,
      shapeCast S4x576 (extractStridedSlice S4x576x1 ![0, 0, j.val] y hs) shapeCasts_S4x576x1_S4x576 (ix2 b q) = y (ix3 b q j) := by
    intro j hs
    pointwise
  have h' : IntOp.andi (IntOp.andi (Ideal.cmp .olt (y (ix3 b q 0)) (Ideal.ofBits .f32 0x7F800000#32))
      (Ideal.cmp .olt (max (y (ix3 b q 49)) (- y (ix3 b q 49))) (Ideal.ofBits .f32 0x7F61B1E6#32)))
      (Ideal.cmp .oge (y (ix3 b q 49) - y (ix3 b q 50))
        (max (max (y (ix3 b q 49)) (- y (ix3 b q 49))) (Ideal.ofBits .f32 0x0D800000#32) * Ideal.ofBits .f32 0x39000000#32)) = 1#1 := by
    rw [← e 0 slices_S4x576x51_S4x576x1_0_0_0, ← e 49 slices_S4x576x51_S4x576x1_0_0_49, ← e 50 slices_S4x576x51_S4x576x1_0_0_50]
    exact h
  rw [and_one, and_one, bits_inf, bits_bound, bits_floor, bits_gap, h0, h49, h50] at h'
  obtain ⟨⟨h1, h2⟩, h3⟩ := h'
  exact ⟨(ofBool_one _).mp h1, (ofBool_one _).mp h2, (ofBool_one _).mp h3⟩

/-- The precondition separates every query's scores. -/
theorem apart (K : FVec Ideal S3x128x4608 .f32) (V : FVec Ideal S3x512x4608 .f32) (O : FVec Ideal S3x1x4608 .f32)
    (Q : FVec Ideal S4x128x576 .f32) (QO : FVec Ideal S4x512x576 .f32) (a b : IVec S_ 32)
    (h : fn (F := Ideal) K V O Q QO a b = fun _ => 1#1) (i : Fin 3) (n : Fin 4) (q : Fin 576) : Apart (score K Q i n q) := by
  rw [fn_eq] at h
  have hi := congrFun h (ix3 i n q)
  have key : ∀ (m : ℕ) (hm : m < 3) (hs : S3x128x4608.Slices ![m, 0, 0] S1x128x4608),
      test (scoresAt m hs K Q) (ix2 n q) = 1#1 → Apart (score K Q ⟨m, hm⟩ n q) := by
    intro m hm hs ht
    rw [← Cert.ReferenceIdeal.Value.scores_column m hm hs]
    exact test_apart _ n q ht
  unfold tests at hi
  match i with
  | ⟨0, _⟩ =>
    refine key 0 (by norm_num) slices_S3x128x4608_S1x128x4608_0_0_0 (Eq.trans ?_ hi)
    generalize test _ = t0
    generalize test _ = t1
    generalize test _ = t2
    pointwise
  | ⟨1, _⟩ =>
    refine key 1 (by norm_num) slices_S3x128x4608_S1x128x4608_1_0_0 (Eq.trans ?_ hi)
    generalize test _ = t0
    generalize test _ = t1
    generalize test _ = t2
    pointwise
  | ⟨2, _⟩ =>
    refine key 2 (by norm_num) slices_S3x128x4608_S1x128x4608_2_0_0 (Eq.trans ?_ hi)
    generalize test _ = t0
    generalize test _ = t1
    generalize test _ = t2
    pointwise

end Cert.Pre_separated
-- ==== Proof.Value.Column.lean ====
module

public import proofs.«01_k».proof.Proof.Value.Separated
public import proofs.«01_k».proof.Proof.Value.Bisect

@[expose] public section

noncomputable section
open Idealize.ShloMosaic

namespace Cert.TopK

open Cert.Pre_separated Cert.ReferenceIdeal.Value

/-- The number of entries of a column that reach a threshold, as the kernel adds it up. -/
def count (f : Fin 4608 → EReal) (c : EReal) : EReal := ∑ k, if c ≤ f k then 1 else 0

/-- The count as the number of scores that reach the bound. -/
theorem count_eq (f : Fin 4608 → EReal) (c : EReal) :
    count f c = (((Finset.univ.filter fun k => c ≤ f k).card : ℝ) : EReal) := by
  unfold count
  rw [Finset.sum_boole]
  exact (EReal.coe_natCast).symm

/-- At least fifty entries reach a threshold exactly when the fiftieth does. -/
theorem fifty_le_count (f : Fin 4608 → EReal) (c : EReal) : ((50 : ℝ) : EReal) ≤ count f c ↔ c ≤ nth f 49 := by
  rw [count_eq, EReal.coe_le_coe_iff]
  have h := count_reach f c ⟨49, by norm_num⟩
  refine Iff.trans ?_ h
  constructor
  · intro h'
    have : ((49 + 1 : ℕ) : ℝ) ≤ ((Finset.univ.filter fun k => c ≤ f k).card : ℝ) := by
      rw [show ((49 + 1 : ℕ) : ℝ) = 50 by norm_num]
      exact h'
    exact Nat.cast_le.mp this
  · intro h'
    have : ((49 + 1 : ℕ) : ℝ) ≤ _ := Nat.cast_le.mpr h'
    norm_num at this
    exact_mod_cast this

/-- The fiftieth entry of a column kept apart is a real number, of bounded magnitude. -/
theorem fiftieth_real (f : Fin 4608 → EReal) (h : Apart f) :
    ∃ r : ℝ, nth f 49 = (r : EReal) ∧ |r| < (sig 0x7F61B1E6 : ℝ) * unit := by
  have hb := h.bounded
  have h1 : nth f 49 < _ := lt_of_le_of_lt (le_max_left _ _) hb
  have h2 : - nth f 49 < _ := lt_of_le_of_lt (le_max_right _ _) hb
  generalize nth f 49 = v at *
  induction v using EReal.rec with
  | bot => exact absurd h2 (by simp)
  | top => exact absurd h1 (by simp)
  | coe r =>
    refine ⟨r, rfl, ?_⟩
    rw [← EReal.coe_neg] at h2
    rw [EReal.coe_lt_coe_iff] at h1 h2
    exact abs_lt.mpr ⟨by linarith, h1⟩

/-- The greatest fifty entries of a column kept apart are real numbers. -/
theorem place_real (f : Fin 4608 → EReal) (h : Apart f) (j : Fin 50) : ∃ r : ℝ, f (place f j) = (r : EReal) := by
  obtain ⟨r, hr, -⟩ := fiftieth_real f h
  have h1 : nth f 49 ≤ f (place f j) := by
    refine order_antitone f ?_
    have := j.isLt
    exact Fin.mk_le_mk.mpr (by show j.val ≤ 49; omega)
  have h2 : f (place f j) ≤ nth f 0 := order_antitone f (Fin.mk_le_mk.mpr (Nat.zero_le _))
  have h3 := lt_of_le_of_lt h2 h.first
  rw [hr] at h1
  generalize f (place f j) = x at *
  induction x using EReal.rec with
  | bot => exact absurd h1 (by simp)
  | top => exact absurd h3 (by simp)
  | coe x => exact ⟨x, rfl⟩

/-- A threshold that the bisection may end at separates the fiftieth entry from the fifty-first. -/
theorem below (f : Fin 4608 → EReal) (h : Apart f) (t : ℕ) (h0 : t % 1024 = 0) (h1 : val t ≤ nth f 49)
    (h2 : nth f 49 < val (t + 1024)) : nth f 50 < val t := by
  obtain ⟨r, hr, hb⟩ := fiftieth_real f h
  have hg := h.gap
  rw [hr] at h1 h2 hg
  refine lt_of_le_of_lt ?_ (val_close t h0 r hb h1 h2)
  rw [← EReal.coe_neg, ← EReal.coe_strictMono.monotone.map_max, ← EReal.coe_strictMono.monotone.map_max,
    ← EReal.coe_mul] at hg
  generalize nth f 50 = w at *
  induction w using EReal.rec with
  | bot => exact bot_le
  | top =>
    rw [sub_eq_add_neg, EReal.neg_top, EReal.add_bot] at hg
    exact absurd hg (not_le.mpr (EReal.bot_lt_coe _))
  | coe w =>
    rw [← EReal.coe_sub, EReal.coe_le_coe_iff] at hg
    rw [EReal.coe_le_coe_iff]
    rw [show max r (-r) = |r| from rfl] at hg
    linarith

/-- The greatest entry of a column, as the kernel folds it. -/
theorem greatest (f : Fin 4608 → EReal) : Finset.fold max ⊥ f Finset.univ = f (place f 0) := by
  refine le_antisymm (Finset.fold_max_le _ |>.mpr ⟨bot_le, fun k _ => le_order_first k f (by norm_num)⟩) ?_
  exact Finset.le_fold_max _ |>.mpr (Or.inr ⟨_, Finset.mem_univ _, le_rfl⟩)

/-- The kernel's exponential of an entry: zero below the threshold. -/
def kept (f : Fin 4608 → EReal) (c : EReal) (k : Fin 4608) : EReal :=
  if c ≤ f k then Ideal.exp (f k - f (place f 0)) else 0

/-- A sum of products with the kept exponentials runs over the fifty greatest entries. -/
theorem sum_kept (f : Fin 4608 → EReal) (c : EReal) (h1 : c ≤ nth f 49) (h2 : nth f 50 < c) (v : Fin 4608 → EReal) :
    ∑ k, v k * kept f c k = ∑ j, v (place f j) * expo f j := by
  have := sum_reach (t := 49) f c (by norm_num) h1 h2 (fun k => v k * Ideal.exp (f k - f (place f 0)))
  refine Eq.trans (Finset.sum_congr rfl fun k _ => ?_) this
  unfold kept
  rw [mul_ite, mul_zero]

/-- A bound between the fiftieth and the next score is reached by fifty scores. -/
theorem count_fifty (f : Fin 4608 → EReal) (c : EReal) (h1 : c ≤ nth f 49) (h2 : nth f 50 < c) :
    count f c = ((50 : ℝ) : EReal) := by
  rw [count_eq, card_reach f c 49 (by norm_num) h1 h2]
  norm_num

/-- Each of the fifty exponentials is a positive real number. -/
theorem expo_real (f : Fin 4608 → EReal) (h : Apart f) (j : Fin 50) : ∃ r : ℝ, 0 < r ∧ expo f j = (r : EReal) := by
  obtain ⟨x, hx⟩ := place_real f h j
  obtain ⟨y, hy⟩ := place_real f h 0
  refine ⟨Real.exp (x - y), Real.exp_pos _, ?_⟩
  unfold expo
  rw [hx, hy, ← EReal.coe_sub, Ideal.exp_coe]

/-- A sum of reals read in the extended reals is the sum of its terms read there. -/
theorem coe_sum {ι : Type} (s : Finset ι) (e : ι → ℝ) : ((∑ j ∈ s, e j : ℝ) : EReal) = ∑ j ∈ s, (e j : EReal) := by
  classical
  induction s using Finset.induction_on with
  | empty => simp
  | insert j s hj ih => rw [Finset.sum_insert hj, Finset.sum_insert hj, EReal.coe_add, ih]

/-- Their sum is a positive real number. -/
theorem total_real (f : Fin 4608 → EReal) (h : Apart f) : ∃ r : ℝ, 0 < r ∧ ∑ j, expo f j = (r : EReal) := by
  choose e he hf using expo_real f h
  refine ⟨∑ j, e j, Finset.sum_pos (fun j _ => he j) ⟨0, Finset.mem_univ _⟩, ?_⟩
  rw [Finset.sum_congr rfl fun j _ => hf j]
  exact (coe_sum _ e).symm

/-- A product with a real number that is not negative distributes over a sum. -/
theorem sum_mul_real {ι : Type} (s : Finset ι) (a : ι → EReal) (c : ℝ) (hc : 0 ≤ c) :
    (∑ j ∈ s, a j) * (c : EReal) = ∑ j ∈ s, a j * (c : EReal) := by
  classical
  induction s using Finset.induction_on with
  | empty => simp
  | insert j s hj ih =>
    rw [Finset.sum_insert hj, Finset.sum_insert hj, ← ih]
    exact EReal.right_distrib_of_nonneg_of_ne_top (by exact_mod_cast hc) (EReal.coe_ne_top c) _ _

/-- The kernel's column: its weighted sum times the inverse of its own corrected total is the softmax of the fifty
greatest entries. -/
theorem column_eq (f : Fin 4608 → EReal) (h : Apart f) (c : EReal) (h1 : c ≤ nth f 49) (h2 : nth f 50 < c)
    (v : Fin 4608 → EReal) (x : EReal) :
    (∑ k, v k * kept f c k) * Ideal.div 1 ((∑ k, 1 * kept f c k) - (count f c - ((50 : ℝ) : EReal)) * x) =
      ∑ j, v (place f j) * Ideal.div (expo f j) (∑ i, expo f i) := by
  rw [sum_kept f c h1 h2 v, sum_kept f c h1 h2 (fun _ => 1), count_fifty f c h1 h2]
  obtain ⟨s, hs, ht⟩ := total_real f h
  rw [← EReal.coe_sub, sub_self, EReal.coe_zero, zero_mul, sub_zero]
  simp only [one_mul]
  rw [ht]
  have hdiv : ∀ y : EReal, Ideal.div y (s : EReal) = y * ((s⁻¹ : ℝ) : EReal) := by
    intro y
    unfold Ideal.div
    rw [if_neg (by exact_mod_cast hs.ne'), EReal.coe_inv]
  rw [hdiv, one_mul, sum_mul_real _ _ _ (inv_nonneg.mpr hs.le)]
  refine Finset.sum_congr rfl fun j _ => ?_
  rw [hdiv, mul_assoc]

end Cert.TopK
-- ==== Proof.Value.Payload.lean ====
module

public import proofs.«01_k».proof.Proof.Value.Column
public import proofs.«01_k».proof.Proof.Value.Consts
public import proofs.«01_k».proof.Proof.Gen.KernelIdeal.Skeleton

@[expose] public section

noncomputable section
open Idealize.ShloMosaic

namespace Cert.KernelIdeal.Value

open Cert.KernelIdeal Cert.KernelIdeal.Gen Cert.TopK Cert.Pre_separated

variable (v0 : Vec Ideal S1x4608x128 .bf16) (v2 : Vec Ideal S1x128x576 .bf16)

/-- A query's scores against every memory position, of one key block and one query block. -/
def blockScore (q : Fin 576) : Fin 4608 → EReal :=
  fun k => Ideal.div (∑ c, v0 (ix3 0 k c) * v2 (ix3 0 c q)) ((Real.sqrt 128 : ℝ) : EReal)

/-- The block's scores read at a memory position and a query. -/
theorem scores_at (k : Fin 4608) (q : Fin 576) : k0_pay5 v0 v2 (ix2 k q) = blockScore v0 v2 q k := by
  unfold k0_pay5 blockScore
  pointwise
  exact congrArg (Ideal.div _) (IdealRules.named_const.ideal_named_scalar _ _ _ _ rfl)

/-- The kernel's decoding of a threshold word. -/
theorem decode (p : BitVec 32) :
    Ideal.ofBits .f32 (Scalar.select (IntOp.cmpi .slt (IntOp.xori p 2147483648#32) 0#32)
      (IntOp.xori (IntOp.xori p 2147483648#32) 2147483647#32) (IntOp.xori p 2147483648#32)) =
      Ideal.ieee 8 23 (pattern p) := by
  refine congrArg (Ideal.ieee 8 23) ?_
  unfold pattern
  show Scalar.select (BitVec.ofBool ((p ^^^ 0x80000000#32).slt 0#32)) _ _ = _
  by_cases h : (p ^^^ 0x80000000#32).slt 0#32
  · rw [if_pos h, h]
    rfl
  · rw [if_neg h, Bool.not_eq_true _ |>.mp h]
    rfl

/-- The bit that a trip of the bisection tries. -/
def trial (k : ℕ) : BitVec 32 := Scalar.shli 1#32 (Scalar.subi 31#32 (Scf.iv 0#32 1#32 k))

/-- Trip `k` tries bit `31 - k`. -/
theorem trial_val : ∀ k : Fin 22, (trial k.val).toNat = 2 ^ (31 - k.val) := by decide +kernel

/-- A trip of the bisection on one column. -/
def trip (f : Fin 4608 → EReal) (t : BitVec 32) (k : ℕ) : BitVec 32 :=
  if ((50 : ℝ) : EReal) ≤ count f (Ideal.ieee 8 23 (pattern (t ||| trial k))) then t ||| trial k else t

/-- A trip of the kernel's loop acts on each query by itself. -/
theorem trip_at (t : Fin k0_t1_loop.trips) (a : IVec S1x576 32) (q : Fin 576) :
    k0_pay8 v0 v2 t a (ix2 0 q) = trip (blockScore v0 v2 q) (a (ix2 0 q)) t.val := by
  have hs := fun k => scores_at v0 v2 k q
  unfold k0_pay8 k0_pay6
  generalize k0_pay5 v0 v2 = s at *
  pointwise
  unfold trip TopK.count
  rw [← decode]
  simp only [hs, bits_50]
  rfl

/-- The threshold words after the bisection. -/
def threshold : IVec S1x576 32 := Scf.fold (fun k a => k0_pay8 v0 v2 k a) k0_pay7

/-- The threshold word of a query is the trips folded over that query's scores. -/
theorem threshold_at (q : Fin 576) :
    threshold v0 v2 (ix2 0 q) =
      (List.finRange k0_t1_loop.trips).foldl (fun t k => trip (blockScore v0 v2 q) t k.val) 0#32 := by
  unfold threshold
  rw [Scf.fold_eq]
  have hz : k0_pay7 (ix2 0 q) = 0#32 := rfl
  rw [← hz]
  symm
  exact List.foldl_hom (g₁ := fun a k => k0_pay8 v0 v2 k a) (g₂ := fun t k => trip (blockScore v0 v2 q) t k.val)
    (fun a : IVec S1x576 32 => a (ix2 0 q)) (fun a k => (trip_at v0 v2 k a q).symm)

/-- The bisection of a column kept apart ends at a threshold between the fiftieth and the fifty-first entry. -/
theorem trips_between (f : Fin 4608 → EReal) (h : Apart f) (n : ℕ) (hn : n = 22) (p : BitVec 32)
    (hp : p = (List.finRange n).foldl (fun t k => trip f t k.val) 0#32) :
    Ideal.ieee 8 23 (pattern p) ≤ nth f 49 ∧ nth f 50 < Ideal.ieee 8 23 (pattern p) := by
  subst hn
  have hv : nth f 49 < ⊤ := by
    obtain ⟨r, hr, -⟩ := fiftieth_real f h
    rw [hr]
    exact EReal.coe_lt_top r
  have key := bisect (nth f 49) hv (fun p => ((50 : ℝ) : EReal) ≤ count f (Ideal.ieee 8 23 (pattern p)))
    (fun p hp => by rw [fifty_le_count, pattern_val p hp]) (fun t k => trip f t k.val) (fun k => trial k.val) trial_val
    (fun t k => by
      unfold trip
      by_cases hc : ((50 : ℝ) : EReal) ≤ count f (Ideal.ieee 8 23 (pattern (t ||| trial k.val)))
      · exact Or.inl ⟨hc, if_pos hc⟩
      · exact Or.inr ⟨hc, if_neg hc⟩)
  rw [← hp] at key
  obtain ⟨h0, h1, h2⟩ := key
  have htop : p.toNat < 511 * 2 ^ 23 := by
    by_contra hn
    have : val p.toNat = ⊤ := by
      unfold val mag
      rw [if_pos (by omega), if_pos (by omega)]
    rw [this] at h1
    exact absurd hv (not_lt.mpr h1)
  rw [pattern_val p htop.le]
  exact ⟨h1, below f h p.toNat h0 h1 h2⟩

/-- Where the fifty greatest scores stand apart, the threshold lies between the fiftieth and the next. -/
theorem threshold_between (q : Fin 576) (h : Apart (blockScore v0 v2 q)) :
    Ideal.ieee 8 23 (pattern (threshold v0 v2 (ix2 0 q))) ≤ nth (blockScore v0 v2 q) 49 ∧
      nth (blockScore v0 v2 q) 50 < Ideal.ieee 8 23 (pattern (threshold v0 v2 (ix2 0 q))) :=
  trips_between _ h _ (by decide) _ (threshold_at v0 v2 q)

/-- The decoded threshold of a column. -/
theorem decoded_at (p : IVec S1x576 32) (q : Fin 576) :
    k0_pay9 (F := Ideal) p (ix2 0 q) = Ideal.ieee 8 23 (pattern (p (ix2 0 q))) := by
  unfold k0_pay9
  pointwise
  exact decode _

/-- The greatest score of a column. -/
theorem greatest_at (q : Fin 576) :
    k0_pay11 v0 v2 (ix2 0 q) = blockScore v0 v2 q (Cert.ReferenceIdeal.Value.place (blockScore v0 v2 q) 0) := by
  have hs := fun k => scores_at v0 v2 k q
  unfold k0_pay11
  generalize k0_pay5 v0 v2 = s at *
  pointwise
  simp only [hs]
  rw [bits_neg_inf]
  exact greatest _

/-- The exponential the kernel keeps of an entry. -/
theorem kept_at (p : IVec S1x576 32) (k : Fin 4608) (q : Fin 576) :
    k0_pay12 v0 v2 p (ix2 k q) = kept (blockScore v0 v2 q) (Ideal.ieee 8 23 (pattern (p (ix2 0 q)))) k := by
  have hs := scores_at v0 v2 k q
  have hg := greatest_at v0 v2 q
  have hd := decoded_at p q
  unfold k0_pay12 k0_pay10
  generalize k0_pay5 v0 v2 = s at *
  generalize k0_pay11 v0 v2 = g at *
  generalize k0_pay9 (F := Ideal) p = c at *
  pointwise
  rw [hs, hg, hd]
  rfl

/-- The number of entries that reach the threshold. -/
theorem count_at (p : IVec S1x576 32) (q : Fin 576) :
    k0_pay13 v0 v2 p (ix2 0 q) = count (blockScore v0 v2 q) (Ideal.ieee 8 23 (pattern (p (ix2 0 q)))) := by
  have hs := fun k => scores_at v0 v2 k q
  have hd := decoded_at p q
  unfold k0_pay13 k0_pay10 k0_pay6
  generalize k0_pay5 v0 v2 = s at *
  generalize k0_pay9 (F := Ideal) p = c at *
  pointwise
  simp only [hs, hd]
  rfl

end Cert.KernelIdeal.Value
-- ==== Proof.KernelIdeal.Value.lean ====
/- The result array of KernelIdeal, block by block. -/
module

public import proofs.«01_k».proof.Proof.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`), read through the window's block. -/
theorem flushed4 (c : Dev nD) (t : Fin cfg0.N) :
    (dats m 0 c).flushed 4 t = (cfg0.win 4).cut (grid0.coords t) (outsAt0 m c t) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — the kernel's one case, `Gen.outsAt0` by definition. -/
theorem flushed4_A (c : Dev nD) (t : Fin cfg0.N) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)) := by
  simp only [flushed4, outsAt0]

/-- The index map sends distinct grid points to distinct block indices (decided over the 12 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S4x3x1024x576.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0) = (dats m 0 c).arrAt 4 cfg0.N :=
  (h c).1 4

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 3 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post4 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Value

end
-- ==== Proof.Value.Block.lean ====
module

public import proofs.«01_k».proof.Proof.Value.Payload
public import proofs.«01_k».proof.Proof.KernelIdeal.Value
public import Idealize.ShloMosaic.Lib.Pipeline.ValueKit

@[expose] public section

noncomputable section
open Idealize.ShloMosaic Idealize.ShloMosaic.TcCoe Idealize.SL.Sem

namespace Cert.KernelIdeal.Value

open Cert.KernelIdeal Cert.KernelIdeal.Gen Cert.TopK Cert.Pre_separated Cert.ReferenceIdeal.Value

/-- The softmax of the fifty greatest entries of a column, applied to values by memory position. -/
def mix (f v : Fin 4608 → EReal) : EReal := ∑ j, v (place f j) * Ideal.div (expo f j) (∑ i, expo f i)

variable (v0 : Vec Ideal S1x4608x128 .bf16) (v2 : Vec Ideal S1x128x576 .bf16) (vx : Vec Ideal S1x514x4608 .bf16)

/-- A row of the kernel's product times its inverse total is the softmax mix of that row. -/
theorem row_mix (hones : ∀ k, vx (ix3 0 513 k) = 1) (q : Fin 576) (h : Apart (blockScore v0 v2 q)) (x : EReal)
    (v : Fin 4608 → EReal) :
    (∑ k, v k * kept (blockScore v0 v2 q) (Ideal.ieee 8 23 (pattern (threshold v0 v2 (ix2 0 q)))) k) *
      Ideal.div 1 ((∑ k, vx (ix3 0 513 k) * kept (blockScore v0 v2 q) (Ideal.ieee 8 23 (pattern (threshold v0 v2 (ix2 0 q)))) k) -
        (TopK.count (blockScore v0 v2 q) (Ideal.ieee 8 23 (pattern (threshold v0 v2 (ix2 0 q)))) - ((50 : ℝ) : EReal)) * x) =
      mix (blockScore v0 v2 q) v := by
  obtain ⟨h1, h2⟩ := threshold_between v0 v2 q h
  simp only [hones]
  exact column_eq _ h _ h1 h2 v x

/-- The upper half of the block: the values mixed. -/
theorem upper_at (hones : ∀ k, vx (ix3 0 513 k) = 1) (r : Fin 512) (q : Fin 576) (h : Apart (blockScore v0 v2 q)) :
    k0_pay3 (k0_pay9 (F := Ideal) (threshold v0 v2)) (k0_pay11 v0 v2) (k0_pay12 v0 v2 (threshold v0 v2))
      (k0_pay13 v0 v2 (threshold v0 v2)) vx (ix4 0 0 r q) =
      mix (blockScore v0 v2 q) fun k => vx (ix3 0 (r.castLE (by norm_num)) k) := by
  have hk := fun k => kept_at v0 v2 (threshold v0 v2) k q
  have hc := count_at v0 v2 (threshold v0 v2) q
  have key := row_mix v0 v2 vx hones q h
  generalize threshold v0 v2 = p at *
  unfold k0_pay3 k0_pay2 k0_pay1
  generalize k0_pay12 v0 v2 p = e at *
  generalize k0_pay13 v0 v2 p = n at *
  generalize k0_pay11 v0 v2 = g at *
  generalize k0_pay9 (F := Ideal) p = c at *
  pointwise
  simp only [hk, hc, bits_50]
  exact key _ _

/-- The lower half of the block: the occupancy mixed, times the query's own value. -/
theorem lower_at (hones : ∀ k, vx (ix3 0 513 k) = 1) (qo : Vec Ideal S1x512x576 .f32) (r : Fin 512) (q : Fin 576)
    (h : Apart (blockScore v0 v2 q)) :
    k0_pay4 (k0_pay9 (F := Ideal) (threshold v0 v2)) (k0_pay11 v0 v2) (k0_pay12 v0 v2 (threshold v0 v2))
      (k0_pay13 v0 v2 (threshold v0 v2)) vx qo (ix4 0 0 r q) =
      qo (ix3 0 r q) * mix (blockScore v0 v2 q) fun k => vx (ix3 0 512 k) := by
  have hk := fun k => kept_at v0 v2 (threshold v0 v2) k q
  have hc := count_at v0 v2 (threshold v0 v2) q
  have key := row_mix v0 v2 vx hones q h
  generalize threshold v0 v2 = p at *
  unfold k0_pay4 k0_pay2 k0_pay1
  generalize k0_pay12 v0 v2 p = e at *
  generalize k0_pay13 v0 v2 p = n at *
  generalize k0_pay11 v0 v2 = g at *
  generalize k0_pay9 (F := Ideal) p = c at *
  pointwise
  simp only [hk, hc, bits_50]
  exact congrArg (fun z => qo (ix3 0 r q) * z) (key _ _)

/-- Where a rectangle of unit strides places its indices. -/
theorem unit_place {s : Shape} (off size : Fin s.rank → ℕ) (inb : ∀ a, off a + size a ≤ s.size a)
    (x : (Rect.unit off size inb).shape.Idx) (y : s.Idx) (h : ∀ a, off a + (x a).val = (y a).val) :
    (Rect.unit off size inb).emb x = y :=
  funext fun a => Fin.ext (by
    show off a + 1 * (x a).val = _
    rw [Nat.one_mul, h])

/-- Of two stores, an index off the newer reads the older. -/
theorem older_store {s : Shape} (r1 r0 : Rect s) (w1 : r1.shape.Idx → EReal) (w0 : r0.shape.Idx → EReal) (x : r0.shape.Idx)
    (y : s.Idx) (he : r0.emb x = y) (hn : y ∉ r1.set) :
    View.canon (Val := Elt Ideal) (s := s) (e := .f32) [⟨r1, w1⟩, ⟨r0, w0⟩] y = w0 x := by
  subst he
  exact (View.canon_cons_of_not_mem _ _ hn).trans (View.canon_cons_emb (Val := Elt Ideal) (e := .f32) _ w0 [] _)

/-- Of two stores, an index of the newer reads it. -/
theorem newer_store {s : Shape} (r1 r0 : Rect s) (w1 : r1.shape.Idx → EReal) (w0 : r0.shape.Idx → EReal) (x : r1.shape.Idx)
    (y : s.Idx) (he : r1.emb x = y) :
    View.canon (Val := Elt Ideal) (s := s) (e := .f32) [⟨r1, w1⟩, ⟨r0, w0⟩] y = w1 x := by
  subst he
  exact View.canon_cons_emb (Val := Elt Ideal) (e := .f32) _ w1 _ _

/-- A block stored as an upper and a lower half reads each row in its half. -/
theorem two_stores (w1 w0 : S1x1x512x576.Idx → EReal) (inb1) (inb0) (r : Fin 1024) (q : Fin 576) :
    View.canon (Val := Elt Ideal) (s := S1x1x1024x576) (e := .f32)
      [⟨Rect.unit ![0, 0, 512, 0] ![1, 1, 512, 576] inb1, w1⟩, ⟨Rect.unit ![0, 0, 0, 0] ![1, 1, 512, 576] inb0, w0⟩] (ix4 0 0 r q) =
      if hr : r.val < 512 then w0 (ix4 0 0 ⟨r.val, hr⟩ q) else w1 (ix4 0 0 ⟨r.val - 512, by omega⟩ q) := by
  have hq := q.isLt
  by_cases hr : r.val < 512
  · rw [dif_pos hr]
    have hm : (ix4 0 0 r q : S1x1x1024x576.Idx) ∉ (Rect.unit (s := S1x1x1024x576) ![0, 0, 512, 0] ![1, 1, 512, 576] inb1).set := by
      rw [Rect.mem_set_unit]
      intro hall
      have h2 : 512 ≤ r.val := (hall 2).1
      omega
    have he : (Rect.unit (s := S1x1x1024x576) ![0, 0, 0, 0] ![1, 1, 512, 576] inb0).emb (ix4 0 0 ⟨r.val, hr⟩ q) = ix4 0 0 r q :=
      unit_place _ _ _ _ _ fun a => by
        fin_cases a
        · rfl
        · rfl
        · exact Nat.zero_add _
        · exact Nat.zero_add _
    exact older_store (Rect.unit (s := S1x1x1024x576) ![0, 0, 512, 0] ![1, 1, 512, 576] inb1)
      (Rect.unit (s := S1x1x1024x576) ![0, 0, 0, 0] ![1, 1, 512, 576] inb0) w1 w0 (ix4 0 0 ⟨r.val, hr⟩ q) (ix4 0 0 r q) he hm
  · rw [dif_neg hr]
    have he : (Rect.unit (s := S1x1x1024x576) ![0, 0, 512, 0] ![1, 1, 512, 576] inb1).emb (ix4 0 0 ⟨r.val - 512, by omega⟩ q) = ix4 0 0 r q :=
      unit_place _ _ _ _ _ fun a => by
        fin_cases a
        · rfl
        · rfl
        · exact Nat.add_sub_of_le (not_lt.mp hr)
        · exact Nat.zero_add _
    exact newer_store (Rect.unit (s := S1x1x1024x576) ![0, 0, 512, 0] ![1, 1, 512, 576] inb1)
      (Rect.unit (s := S1x1x1024x576) ![0, 0, 0, 0] ![1, 1, 512, 576] inb0) w1 w0 (ix4 0 0 ⟨r.val - 512, by omega⟩ q) (ix4 0 0 r q) he

/-- The block after the body, one row and one query at a time. -/
theorem out_at (c : Dev nD) (i : grid0.Coords) (arg2 : Memref sig .tc .vmem S1x4608x128 .bf16) (harg2 : arg2.IsWhole) (arg3 : Memref sig .tc .vmem S1x514x4608 .bf16) (harg3 : arg3.IsWhole)
    (arg4 : Memref sig .tc .vmem S1x128x576 .bf16) (harg4 : arg4.IsWhole) (arg5 : Memref sig .tc .vmem S1x512x576 .f32) (harg5 : arg5.IsWhole)
    (arg6 : Memref sig .tc .vmem S1x1x1024x576 .f32) (harg6 : arg6.IsWhole)
    (x0 : Vec Ideal S1x4608x128 .bf16) (x1 : Vec Ideal S1x514x4608 .bf16) (x2 : Vec Ideal S1x128x576 .bf16) (x3 : Vec Ideal S1x512x576 .f32)
    (hones : ∀ k, x1 (ix3 0 513 k) = 1) (r : Fin 1024) (q : Fin 576) (h : Apart (blockScore x0 x2 q)) :
    out0_A_4 c i arg2 harg2 arg3 harg3 arg4 harg4 arg5 harg5 arg6 harg6 x0 x1 x2 x3 (ix4 0 0 r q) =
      if hr : r.val < 512 then mix (blockScore x0 x2 q) fun k => x1 (ix3 0 ⟨r.val, hr.trans (by norm_num)⟩ k)
      else x3 (ix3 0 ⟨r.val - 512, by omega⟩ q) * mix (blockScore x0 x2 q) fun k => x1 (ix3 0 512 k) := by
  frame_out
  refine (two_stores _ _ _ _ r q).trans ?_
  by_cases hr : r.val < 512
  · rw [dif_pos hr, dif_pos hr]
    exact upper_at x0 x2 x1 hones ⟨r.val, hr⟩ q h
  · rw [dif_neg hr, dif_neg hr]
    exact lower_at x0 x2 x1 hones x3 ⟨r.val - 512, by omega⟩ q h

end Cert.KernelIdeal.Value
-- ==== Proof.Value.Entry.lean ====
module

public import proofs.«01_k».proof.Proof.Value.Block

@[expose] public section

noncomputable section
open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The joined values, occupancy and ones, from the contents before the concatenation. -/
theorem joined (G : Valuation τ sig (Elt Ideal)) :
    @Eq (FVec Ideal S3x514x4608 .bf16) (StableHlo.after (hostOps0.drop 4) G (Proc.devRef .tc main_call0_v4))
      (truncf .bf16 (concatenate S3x514x4608 1 [⟨S3x512x4608, (G (Proc.devRef .tc main_arg1) : FVec Ideal S3x512x4608 .f32)⟩,
        ⟨S3x1x4608, (G (Proc.devRef .tc main_arg2) : FVec Ideal S3x1x4608 .f32)⟩,
        ⟨S3x1x4608, (G (Proc.devRef .tc main_call0_v2) : FVec Ideal S3x1x4608 .f32)⟩]
        concatenates_S3x512x4608_S3x1x4608_S3x1x4608_S3x514x4608_d1) bitsLt_bf16_f32) := by
  show StableHlo.after [_, _, _] G _ = _
  rw [StableHlo.after_cons, StableHlo.after_cons, StableHlo.after_cons, StableHlo.after_nil]
  rw [StableHlo.unary_result_ne (h := (show main_call0_v4 ≠ main_call0_v5 by decide)) ..]
  rw [StableHlo.unary_result]
  refine congrArg (fun z : FVec Ideal S3x514x4608 .f32 => truncf .bf16 z bitsLt_bf16_f32) ?_
  exact (StableHlo.nary_result ..).trans rfl

/-- The keys the region finds: each object's keys, transposed. -/
theorem entry_keys (c : Dev nD) (i : Fin 3) (k : Fin 4608) (x : Fin 128) :
    @Eq EReal (V m c main_call0_v1 (ix3 i k x)) (m ((c : Thread nD τ).loc main_arg0) (ix3 i x k)) := by
  entry_read
  show transpose S3x4608x128 [0, 2, 1] (m ((c : Thread nD τ).loc main_arg0) : FVec Ideal S3x128x4608 .f32)
    transposes_S3x128x4608_S3x4608x128_0_2_1 (ix3 i k x) = _
  generalize (m ((c : Thread nD τ).loc main_arg0) : FVec Ideal S3x128x4608 .f32) = K
  pointwise

/-- The queries the region finds: as given. -/
theorem entry_query (c : Dev nD) (b : Fin 4) (x : Fin 128) (q : Fin 576) :
    @Eq EReal (V m c main_call0_v5 (ix3 b x q)) (m ((c : Thread nD τ).loc main_arg3) (ix3 b x q)) := by
  entry_read
  rfl

/-- The contents before the concatenation: the arguments as given, and ones. -/
theorem before_joined (c : Dev nD) :
    StableHlo.after (hostOps0.drop 4) (StableHlo.after (hostOps0.take 4) fun b => m (c, b)) (Proc.devRef .tc main_call0_v4) =
      V m c main_call0_v4 := rfl

/-- The values before the concatenation are as given. -/
theorem before_arg1 (c : Dev nD) :
    StableHlo.after (hostOps0.take 4) (fun b => m (c, b)) (Proc.devRef .tc main_arg1) = m ((c : Thread nD τ).loc main_arg1) := by
  show StableHlo.after [_, _, _, _] _ _ = _
  after_results

/-- The occupancy before the concatenation is as given. -/
theorem before_arg2 (c : Dev nD) :
    StableHlo.after (hostOps0.take 4) (fun b => m (c, b)) (Proc.devRef .tc main_arg2) = m ((c : Thread nD τ).loc main_arg2) := by
  show StableHlo.after [_, _, _, _] _ _ = _
  after_results

/-- The third part of the concatenation is ones. -/
theorem before_ones (c : Dev nD) (i : S3x1x4608.Idx) :
    @Eq EReal (StableHlo.after (hostOps0.take 4) (fun b => m (c, b)) (Proc.devRef .tc main_call0_v2) i) 1 := by
  have h : @Eq (FVec Ideal S3x1x4608 .f32) (StableHlo.after (hostOps0.take 4) (fun b => m (c, b)) (Proc.devRef .tc main_call0_v2))
    (broadcastInDim S3x1x4608 ![] bcast_S_S3x1x4608 (constant S_ .f32 0x3F800000#32)) := by
    show StableHlo.after [_, _, _, _] _ _ = _
    after_results
    rfl
  rw [h]
  pointwise

/-- The joined array the region finds: the values, the occupancy, ones. -/
theorem entry_joined (c : Dev nD) (i : Fin 3) (r : Fin 514) (k : Fin 4608) :
    @Eq EReal (V m c main_call0_v4 (ix3 i r k)) (
      if h : r.val < 512 then m ((c : Thread nD τ).loc main_arg1) (ix3 i ⟨r.val, h⟩ k)
      else if r.val < 513 then m ((c : Thread nD τ).loc main_arg2) (ix3 i 0 k) else 1) := by
  have h1 := before_arg1 m c
  have h2 := before_arg2 m c
  have h3 := before_ones m c
  rw [← before_joined, joined]
  generalize StableHlo.after (hostOps0.take 4) (fun b => m (c, b)) = G at *
  rw [← h1, ← h2]
  pointwise
  by_cases hr : r.val < 512
  · rw [dif_pos hr, dif_pos hr]
  · rw [dif_neg hr, dif_neg hr]
    by_cases hr' : r.val < 513
    · rw [if_pos hr', dif_pos (by omega)]
      exact congrArg (fun z => G (Proc.devRef .tc main_arg2) (ix3 i z k)) (Fin.ext (by show r.val - 512 = 0; omega))
    · rw [if_neg hr', dif_neg (by omega)]
      exact h3 _

/-- The object and the batch of a grid point. -/
theorem index0 : ∀ t : Fin grid0.N, win0_0.index t = ![(grid0.coords t 0).val, 0, 0] := by decide +kernel
/-- The joined values' block of a grid point is its object's. -/
theorem index1 : ∀ t : Fin grid0.N, win0_1.index t = ![(grid0.coords t 0).val, 0, 0] := by decide +kernel
/-- The query's block of a grid point is its batch's. -/
theorem index2 : ∀ t : Fin grid0.N, win0_2.index t = ![(grid0.coords t 1).val, 0, 0] := by decide +kernel
/-- The query's own values' block of a grid point is its batch's. -/
theorem index3 : ∀ t : Fin grid0.N, win0_3.index t = ![(grid0.coords t 1).val, 0, 0] := by decide +kernel
/-- The output block of a grid point is at its batch and its object. -/
theorem index4 : ∀ t : Fin grid0.N, win0_4.index t = ![(grid0.coords t 1).val, (grid0.coords t 0).val, 0, 0] := by decide +kernel

/-- A point's block of the joined array is its object's. -/
theorem block_joined (c : Dev nD) (t : Fin cfg0.N) (r : Fin 514) (k : Fin 4608) (i : Fin 3) (hi : i.val = (grid0.coords t 0).val) :
    @Eq EReal (iblk m c 1 t (ix3 0 r k)) (V m c main_call0_v4 (ix3 i r k)) := by
  blk_ext [iblk, index1 t]

/-- A point's block of the keys is its object's. -/
theorem block_keys (c : Dev nD) (t : Fin cfg0.N) (k : Fin 4608) (x : Fin 128) (i : Fin 3) (hi : i.val = (grid0.coords t 0).val) :
    @Eq EReal (iblk m c 0 t (ix3 0 k x)) (V m c main_call0_v1 (ix3 i k x)) := by
  blk_ext [iblk, index0 t]

/-- A point's block of the queries is its batch's. -/
theorem block_query (c : Dev nD) (t : Fin cfg0.N) (x : Fin 128) (q : Fin 576) (b : Fin 4) (hb : b.val = (grid0.coords t 1).val) :
    @Eq EReal (iblk m c 2 t (ix3 0 x q)) (V m c main_call0_v5 (ix3 b x q)) := by
  blk_ext [iblk, index2 t]

/-- A point's block of the queries' own values is its batch's. -/
theorem block_own (c : Dev nD) (t : Fin cfg0.N) (x : Fin 512) (q : Fin 576) (b : Fin 4) (hb : b.val = (grid0.coords t 1).val) :
    @Eq EReal (iblk m c 3 t (ix3 0 x q)) (m ((c : Thread nD τ).loc main_arg4) (ix3 b x q)) := by
  rw [← V_main_arg4 m c]
  blk_ext [iblk, index3 t]

end Cert.KernelIdeal.Value
-- ==== Proof.Value.Result.lean ====
module

public import proofs.«01_k».proof.Proof.Value.Entry

@[expose] public section

noncomputable section
open Idealize.ShloMosaic Idealize.ShloMosaic.TcCoe Idealize.SL.Sem

namespace Cert.KernelIdeal.Value

open Cert.KernelIdeal Cert.KernelIdeal.Gen Cert.TopK Cert.Pre_separated

variable (m : (ℓ : Loc nD τ sig) → Buf (Elt Ideal) ℓ)

/-- The result of one device, entry by entry: the softmax of the fifty greatest scores, applied to the values in the upper
half of the rows, and to the occupancy, times the query's own value, in the lower half. -/
def entry (K : FVec Ideal S3x128x4608 .f32) (V : FVec Ideal S3x512x4608 .f32) (O : FVec Ideal S3x1x4608 .f32)
    (Q : FVec Ideal S4x128x576 .f32) (QO : FVec Ideal S4x512x576 .f32) (b : Fin 4) (i : Fin 3) (r : Fin 1024) (q : Fin 576) : EReal :=
  if hr : r.val < 512 then mix (score K Q i b q) fun k => V (ix3 i ⟨r.val, hr⟩ k)
  else QO (ix3 b ⟨r.val - 512, by omega⟩ q) * mix (score K Q i b q) fun k => O (ix3 i 0 k)

/-- A point's scores are those of its object and its batch. -/
theorem point_score (c : Dev nD) (t : Fin cfg0.N) (i : Fin 3) (b : Fin 4) (hi : i.val = (grid0.coords t 0).val)
    (hb : b.val = (grid0.coords t 1).val) (q : Fin 576) :
    blockScore (iblk m c 0 t) (iblk m c 2 t) q =
      score (m ((c : Thread nD τ).loc main_arg0)) (m ((c : Thread nD τ).loc main_arg3)) i b q := by
  funext k
  unfold blockScore score
  refine congrArg (fun z => Ideal.div z _) (Finset.sum_congr rfl fun x _ => ?_)
  rw [block_keys m c t k x i hi, entry_keys, block_query m c t x q b hb, entry_query]

/-- What a point leaves in the output block. -/
theorem point_out (c : Dev nD) (t : Fin cfg0.N) (i : Fin 3) (b : Fin 4) (hi : i.val = (grid0.coords t 0).val)
    (hb : b.val = (grid0.coords t 1).val) (r : Fin 1024) (q : Fin 576)
    (h : Apart (score (m ((c : Thread nD τ).loc main_arg0)) (m ((c : Thread nD τ).loc main_arg3)) i b q)) :
    @Eq EReal (outsAt0 m c t (ix4 0 0 r q)) (entry (m ((c : Thread nD τ).loc main_arg0)) (m ((c : Thread nD τ).loc main_arg1))
      (m ((c : Thread nD τ).loc main_arg2)) (m ((c : Thread nD τ).loc main_arg3)) (m ((c : Thread nD τ).loc main_arg4)) b i r q) := by
  have hs := point_score m c t i b hi hb q
  have hones : ∀ k, @Eq EReal (iblk m c 1 t (ix3 0 513 k)) 1 := fun k => by
    rw [block_joined m c t 513 k i hi, entry_joined]
    rfl
  refine (out_at c _ _ _ _ _ _ _ _ _ _ _ _ _ _ _ hones r q (by rw [hs]; exact h)).trans ?_
  unfold entry
  rw [hs]
  by_cases hr : r.val < 512
  · rw [dif_pos hr, dif_pos hr]
    refine congrArg (mix _) (funext fun k => ?_)
    rw [block_joined m c t _ k i hi, entry_joined, dif_pos hr]
  · rw [dif_neg hr, dif_neg hr, block_own m c t _ q b hb]
    refine congrArg (fun z => _ * mix _ z) (funext fun k => ?_)
    rw [block_joined m c t 512 k i hi, entry_joined]
    rfl

/-- Where a point's block lies in the result array. -/
theorem place_out (t : Fin cfg0.N) (y : ((cfg0.win 4).xblock (cfg0.grid.coords t)).Idx) :
    ∃ z : S4x3x1024x576.Idx, ((cfg0.win 4).blk t).view.emb y = z ∧ (z 0).val = (grid0.coords t 1).val ∧
      (z 1).val = (grid0.coords t 0).val ∧ (z 2).val = (y 2).val ∧ (z 3).val = (y 3).val := by
  have hy0 : (y 0).val < 1 := (y 0).isLt
  have hy1 : (y 1).val < 1 := (y 1).isLt
  refine ⟨_, rfl, ?_, ?_, ?_, ?_⟩
  · blk_simp [index4 t]
  · blk_simp [index4 t]
  · blk_simp [index4 t]
  · blk_simp [index4 t]

/-- The result array, entry by entry. -/
theorem array_entry (c : Dev nD)
    (h : ∀ i b q, Apart (score (m ((c : Thread nD τ).loc main_arg0)) (m ((c : Thread nD τ).loc main_arg3)) i b q)) :
    (dats m 0 c).arrAt 4 cfg0.N = fun y : S4x3x1024x576.Idx => entry (m ((c : Thread nD τ).loc main_arg0)) (m ((c : Thread nD τ).loc main_arg1))
      (m ((c : Thread nD τ).loc main_arg2)) (m ((c : Thread nD τ).loc main_arg3)) (m ((c : Thread nD τ).loc main_arg4)) (y 0) (y 1) (y 2) (y 3) := by
  refine (dats m 0 c).arrAt_eq_of_covers 4 _ (by decide +kernel) fun t hf y => ?_
  rw [after0_4]
  have hy0 : (y 0).val < 1 := (y 0).isLt
  have hy1 : (y 1).val < 1 := (y 1).isLt
  have hy2 : (y 2).val < 1024 := (y 2).isLt
  have hy3 : (y 3).val < 576 := (y 3).isLt
  have hx : (cfg0.win 4).xinj (cfg0.grid.coords t) y = (ix4 0 0 ⟨(y 2).val, hy2⟩ ⟨(y 3).val, hy3⟩ : S1x1x1024x576.Idx) := by
    funext a
    refine Fin.ext ?_
    fin_cases a
    · show (y 0).val = 0
      omega
    · show (y 1).val = 0
      omega
    · rfl
    · rfl
  obtain ⟨z, hz, z0, z1, z2, z3⟩ := place_out t y
  rw [hx, hz]
  have key := (point_out m c t (z 1) (z 0) z1 z0 ⟨(y 2).val, hy2⟩ ⟨(y 3).val, hy3⟩ (h _ _ _)).trans
    (congrArg₂ (entry _ _ _ _ _ (z 0) (z 1)) (Fin.ext z2.symm) (Fin.ext z3.symm))
  generalize outsAt0 m c t = w at *
  exact key

end Cert.KernelIdeal.Value
-- ==== Proof.Value.Equal.lean ====
/- The reference's result, entry by entry, is the kernel's. -/
module

public import proofs.«01_k».proof.Defs
public import proofs.«01_k».proof.Proof.Value.Result
public import proofs.«01_k».proof.Proof.Value.Scores
public import proofs.«01_k».proof.Proof.Value.Separated
public import proofs.«01_k».proof.Proof.Gen.ReferenceIdeal.Run

@[expose] public section

noncomputable section

open Idealize.ShloMosaic Idealize.ShloMosaic.TcCoe Idealize.SL.Sem Idealize.ShloMosaic.StableHlo

namespace Cert.ReferenceIdeal.Value

open Cert.ReferenceIdeal Cert.ReferenceIdeal.Gen Cert.TopK Cert.KernelIdeal.Value

/-- One object's part of the reference's result, read at a row and a query, from the object's scores. -/
theorem part_entry (K : FVec Ideal S3x128x4608 .f32) (V : FVec Ideal S3x512x4608 .f32) (O : FVec Ideal S3x1x4608 .f32)
    (Q : FVec Ideal S4x128x576 .f32) (QO : FVec Ideal S4x512x576 .f32) (x : FVec Ideal S4x576x4608 .f32)
    (b : Fin 4) (i : Fin 3) (r : Fin 1024) (q : Fin 576) (hx : column x b q = score K Q i b q) :
    part (weights x) (fun j => V (ix3 i (j 0) (j 1))) (fun j => O (ix3 i 0 (j 1))) QO (ix3 b r q)
      = entry K V O Q QO b i r q := by
  unfold entry mix
  rw [← hx]
  by_cases hr : r.val < 512
  · rw [part_upper _ _ _ _ b r q hr, dif_pos hr]
    exact sum_weights x b q fun k => V (ix3 i ⟨r.val, hr⟩ k)
  · rw [part_lower _ _ _ _ b r q hr, dif_neg hr]
    exact congrArg (fun z => _ * z) (sum_weights x b q fun k => O (ix3 i 0 k))

/-- The weights of object `n`, from the keys of every object. -/
def weightsOf (n : ℕ) (h : S3x128x4608.Slices ![n, 0, 0] S1x128x4608) (K : FVec Ideal S3x128x4608 .f32)
    (Q : FVec Ideal S4x128x576 .f32) : FVec Ideal S4x4608x576 .f32 :=
  weights (scoresOf (shapeCast S128x4608 (extractStridedSlice S1x128x4608 ![n, 0, 0] K h) shapeCasts_S1x128x4608_S128x4608) Q)

/-- Object `n`'s part, from the keys of every object. -/
theorem object_entry (n : ℕ) (hn : n < 3) (h : S3x128x4608.Slices ![n, 0, 0] S1x128x4608) (K : FVec Ideal S3x128x4608 .f32)
    (V : FVec Ideal S3x512x4608 .f32) (O : FVec Ideal S3x1x4608 .f32)
    (Q : FVec Ideal S4x128x576 .f32) (QO : FVec Ideal S4x512x576 .f32) (b : Fin 4) (r : Fin 1024) (q : Fin 576) :
    part (weightsOf n h K Q) (fun j => V (ix3 ⟨n, hn⟩ (j 0) (j 1))) (fun j => O (ix3 ⟨n, hn⟩ 0 (j 1))) QO (ix3 b r q)
      = entry K V O Q QO b ⟨n, hn⟩ r q := by
  unfold weightsOf
  exact part_entry K V O Q QO _ b ⟨n, hn⟩ r q (scores_column n hn h K Q b q)

/-- The result at a batch, an object, a row and a query, whatever the weights, is the weights' part there. -/
theorem answer_part (V : FVec Ideal S3x512x4608 .f32) (O : FVec Ideal S3x1x4608 .f32) (QO : FVec Ideal S4x512x576 .f32)
    (W0 W1 W2 : FVec Ideal S4x4608x576 .f32) (b : Fin 4) (r : Fin 1024) (q : Fin 576) (f : Fin 3 → EReal)
    (h0 : part W0 (fun j => V (ix3 ⟨0, by norm_num⟩ (j 0) (j 1))) (fun j => O (ix3 ⟨0, by norm_num⟩ 0 (j 1))) QO (ix3 b r q) = f ⟨0, by norm_num⟩)
    (h1 : part W1 (fun j => V (ix3 ⟨1, by norm_num⟩ (j 0) (j 1))) (fun j => O (ix3 ⟨1, by norm_num⟩ 0 (j 1))) QO (ix3 b r q) = f ⟨1, by norm_num⟩)
    (h2 : part W2 (fun j => V (ix3 ⟨2, by norm_num⟩ (j 0) (j 1))) (fun j => O (ix3 ⟨2, by norm_num⟩ 0 (j 1))) QO (ix3 b r q) = f ⟨2, by norm_num⟩)
    (i : Fin 3) : answer V O QO W0 W1 W2 (ix4 b i r q) = f i := by
  rw [answer_at]
  match i with
  | ⟨0, _⟩ => exact h0
  | ⟨1, _⟩ => exact h1
  | ⟨2, _⟩ => exact h2

/-- The reference's result is `entry` at every batch, object, row and query. -/
theorem answer_entry (K : FVec Ideal S3x128x4608 .f32) (V : FVec Ideal S3x512x4608 .f32) (O : FVec Ideal S3x1x4608 .f32)
    (Q : FVec Ideal S4x128x576 .f32) (QO : FVec Ideal S4x512x576 .f32) (b : Fin 4) (i : Fin 3) (r : Fin 1024) (q : Fin 576) :
    answer V O QO (weightsOf 0 slices_S3x128x4608_S1x128x4608_0_0_0 K Q) (weightsOf 1 slices_S3x128x4608_S1x128x4608_1_0_0 K Q)
      (weightsOf 2 slices_S3x128x4608_S1x128x4608_2_0_0 K Q) (ix4 b i r q) = entry K V O Q QO b i r q :=
  answer_part V O QO _ _ _ b r q (fun i => entry K V O Q QO b i r q)
    (object_entry 0 (by norm_num) slices_S3x128x4608_S1x128x4608_0_0_0 K V O Q QO b r q)
    (object_entry 1 (by norm_num) slices_S3x128x4608_S1x128x4608_1_0_0 K V O Q QO b r q)
    (object_entry 2 (by norm_num) slices_S3x128x4608_S1x128x4608_2_0_0 K V O Q QO b r q) i

/-- The printed weights of the first object. -/
theorem weights_zero (V0 : Valuation τ sig (Elt Ideal)) :
    res_main_v44 V0 = weightsOf 0 slices_S3x128x4608_S1x128x4608_0_0_0 (V0 (Proc.devRef .tc main_arg0)) (V0 (Proc.devRef .tc main_arg3)) := rfl

/-- The printed weights of the second object. -/
theorem weights_one (V0 : Valuation τ sig (Elt Ideal)) :
    res_main_v100 V0 = weightsOf 1 slices_S3x128x4608_S1x128x4608_1_0_0 (V0 (Proc.devRef .tc main_arg0)) (V0 (Proc.devRef .tc main_arg3)) := rfl

/-- The printed weights of the third object. -/
theorem weights_two (V0 : Valuation τ sig (Elt Ideal)) :
    res_main_v156 V0 = weightsOf 2 slices_S3x128x4608_S1x128x4608_2_0_0 (V0 (Proc.devRef .tc main_arg0)) (V0 (Proc.devRef .tc main_arg3)) := rfl

/-- On every device the reference ends with its result at the objects' parts and its arguments unchanged. -/
theorem run_answer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v172)
          = answer (m ((c.tc : Thread nD τ).loc main_arg1)) (m ((c.tc : Thread nD τ).loc main_arg2)) (m ((c.tc : Thread nD τ).loc main_arg4))
            (weightsOf 0 slices_S3x128x4608_S1x128x4608_0_0_0 (m ((c.tc : Thread nD τ).loc main_arg0)) (m ((c.tc : Thread nD τ).loc main_arg3)))
            (weightsOf 1 slices_S3x128x4608_S1x128x4608_1_0_0 (m ((c.tc : Thread nD τ).loc main_arg0)) (m ((c.tc : Thread nD τ).loc main_arg3)))
            (weightsOf 2 slices_S3x128x4608_S1x128x4608_2_0_0 (m ((c.tc : Thread nD τ).loc main_arg0)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (by
      rw [weights_zero, weights_one, weights_two]
      rfl), (h c).2⟩) (run (F := Ideal) m ρ)

end Cert.ReferenceIdeal.Value

namespace Cert.Proof

open Cert.TopK Cert.KernelIdeal.Value

/-- Where the fifty greatest scores stand apart from the rest, the kernel and the reference leave the same result. -/
theorem same_result : Cert.algebraic_KernelIdeal_ReferenceIdeal_pre_separated := by
  intro m g m' g' hpre hagree
  refine ⟨_, Cert.KernelIdeal.Value.run_blocks m g, (θ_run Cert.ReferenceIdeal.defs _ _).mono
    (fun r h c => ⟨(h c).1.trans ?_, (h c).2⟩) (Cert.ReferenceIdeal.Value.run_answer m' g')⟩
  obtain ⟨a0, a1, a2, a3, a4, -⟩ := hagree c
  rw [a0, a1, a2, a3, a4]
  refine Eq.trans ?_ (Cert.KernelIdeal.Value.array_entry m c fun i b q => Cert.Pre_separated.apart _ _ _ _ _ _ _ (hpre c) i b q).symm
  funext y
  rw [eq_ix4 y]
  exact Cert.ReferenceIdeal.Value.answer_entry _ _ _ _ _ (y 0) (y 1) (y 2) (y 3)

end Cert.Proof
-- ==== Proof.lean ====
/- The certificate of this directory: what each claim is proved by. -/
module

public import proofs.«01_k».proof.Defs
public import proofs.«01_k».proof.Proof.Frames
public import proofs.«01_k».proof.Proof.Value.Equal
public import proofs.«01_k».proof.Proof.Gen.Pre_separated

@[expose] public section

noncomputable section

namespace Cert.Proof

/-- The claims of this certificate. -/
theorem claim : Cert.Claim :=
  ⟨Cert.Kernel.Gen.facts, Cert.KernelIdeal.Gen.facts, Cert.ReferenceIdeal.Gen.facts, Cert.Pre_separated.Gen.facts,
    frame_kernel, frame_ideal, fun m ρ _ => frame_ideal m ρ trivial, frame_reference,
    fun m ρ _ => frame_reference m ρ trivial, preserves_named, same_result⟩

end Cert.Proof

end
